-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v2) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S8x128 : Shape := ⟨2, ![8, 128]⟩
abbrev S512x49152 : Shape := ⟨2, ![512, 49152]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel

variable [Facts]

def fn {F : FTy → Type} [FloatOps F] (main_arg0 : IVec S8x128 32) (main_arg1 : FVec F S512x49152 .f32) : IVec S_ 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 512#32
  let main_v2 : IVec S8x128 32 := broadcastInDim S8x128 ![] bcast_S_S8x128 main_c_0
  let main_v3 : IVec S8x128 1 := cmpi .slt main_arg0 main_v2
  let main_v4 : IVec S8x128 1 := andi main_v1 main_v3
  let main_c_1 : IVec S_ 1 := constantI S_ 1 1#1
  let main_v5 : IVec S_ 1 := (fun x v => Host.reduce IntOp.andi x v reducesTo_S8x128_S_d0_1 h_S_) main_v4 main_c_1
  main_v5
-- ==== Kernel.lean ====
abbrev S8x128 : Shape := ⟨2, ![8, 128]⟩
abbrev S512x49152 : Shape := ⟨2, ![512, 49152]⟩
abbrev S1024 : Shape := ⟨1, ![1024]⟩
abbrev S1024x49152 : Shape := ⟨2, ![1024, 49152]⟩
abbrev S512 : Shape := ⟨1, ![512]⟩
abbrev S8x49152 : Shape := ⟨2, ![8, 49152]⟩
abbrev S_ : Shape := ⟨0, ![]⟩
abbrev S1 : Shape := ⟨1, ![1]⟩
abbrev S1x49152 : Shape := ⟨2, ![1, 49152]⟩
abbrev S8x128x49152 : Shape := ⟨3, ![8, 128, 49152]⟩

abbrev nBuf : Table → Nat
  | .hbm => 5
  | .shared => 1
  | .local .scScalar .smem => 1
  | _ => 0

abbrev bufTy : (tb : Table) → Fin (nBuf tb) → BufTy
  | .hbm, ⟨0, _⟩ => ⟨S8x128, .i32⟩
  | .hbm, ⟨1, _⟩ => ⟨S512x49152, .f32⟩
  | .hbm, ⟨2, _⟩ => ⟨S1024, .i32⟩
  | .hbm, ⟨3, _⟩ => ⟨S1024x49152, .f32⟩
  | .hbm, ⟨4, _⟩ => ⟨S8x128x49152, .f32⟩
  | .shared, ⟨0, _⟩ => ⟨S8x49152, .f32⟩
  | .local .scScalar .smem, ⟨0, _⟩ => ⟨S512, .i32⟩
  | _, _ => ⟨S8x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_arg1_scs : Ref sig .scScalar := ⟨.hbm, 1, rfl⟩
abbrev main_v0_scs : Ref sig .scScalar := ⟨.hbm, 2, rfl⟩
abbrev main_v1_scs : Ref sig .scScalar := ⟨.hbm, 3, rfl⟩
abbrev cc0_scratch1 : Ref sig .scScalar := ⟨.shared, 0, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![2], ![false]⟩

def k0_off1 (i : grid0.Coords) : Fin 1 → Nat :=
  let arg0 : BitVec 32 := BitVec.ofNat 32 (i 0).val
  let c512_i32 : BitVec 32 := 512#32
  let v0 : BitVec 32 := Scalar.muli arg0 c512_i32
  ![v0.toNat]
def k0_off2 (v2 : BitVec 32) : Fin 2 → Nat :=
  let c0_i32_2 : BitVec 32 := 0#32
  ![v2.toNat, 0]

def k0_chk1 (v2 : BitVec 32) : Prop :=
  (∀ a, (k0_off2 v2) a + S1x49152.size a ≤ S512x49152.size a)
theorem k0_off2_inb : ∀ (v2 : BitVec 32) (k0_hw1 : k0_chk1 v2), ∀ a, (k0_off2 v2) a + S1x49152.size a ≤ S512x49152.size a := fun v2 k0_hw1 => k0_hw1

def k0_off3 (v6 : BitVec 32) : Fin 2 → Nat :=
  let c0_i32_5 : BitVec 32 := 0#32
  ![v6.toNat, 0]

def k0_chk2 (v6 : BitVec 32) : Prop :=
  (∀ a, (k0_off3 v6) a + S1x49152.size a ≤ S512x49152.size a)
theorem k0_off3_inb : ∀ (v6 : BitVec 32) (k0_hw2 : k0_chk2 v6), ∀ a, (k0_off3 v6) a + S1x49152.size a ≤ S512x49152.size a := fun v6 k0_hw2 => k0_hw2

def k0_off4 (v10 : BitVec 32) : Fin 2 → Nat :=
  let c0_i32_8 : BitVec 32 := 0#32
  ![v10.toNat, 0]

def k0_chk3 (v10 : BitVec 32) : Prop :=
  (∀ a, (k0_off4 v10) a + S1x49152.size a ≤ S512x49152.size a)
theorem k0_off4_inb : ∀ (v10 : BitVec 32) (k0_hw3 : k0_chk3 v10), ∀ a, (k0_off4 v10) a + S1x49152.size a ≤ S512x49152.size a := fun v10 k0_hw3 => k0_hw3

def k0_off5 (v14 : BitVec 32) : Fin 2 → Nat :=
  let c0_i32_11 : BitVec 32 := 0#32
  ![v14.toNat, 0]

def k0_chk4 (v14 : BitVec 32) : Prop :=
  (∀ a, (k0_off5 v14) a + S1x49152.size a ≤ S512x49152.size a)
theorem k0_off5_inb : ∀ (v14 : BitVec 32) (k0_hw4 : k0_chk4 v14), ∀ a, (k0_off5 v14) a + S1x49152.size a ≤ S512x49152.size a := fun v14 k0_hw4 => k0_hw4

def k0_off6 (v18 : BitVec 32) : Fin 2 → Nat :=
  let c0_i32_14 : BitVec 32 := 0#32
  ![v18.toNat, 0]

def k0_chk5 (v18 : BitVec 32) : Prop :=
  (∀ a, (k0_off6 v18) a + S1x49152.size a ≤ S512x49152.size a)
theorem k0_off6_inb : ∀ (v18 : BitVec 32) (k0_hw5 : k0_chk5 v18), ∀ a, (k0_off6 v18) a + S1x49152.size a ≤ S512x49152.size a := fun v18 k0_hw5 => k0_hw5

def k0_off7 (v22 : BitVec 32) : Fin 2 → Nat :=
  let c0_i32_17 : BitVec 32 := 0#32
  ![v22.toNat, 0]

def k0_chk6 (v22 : BitVec 32) : Prop :=
  (∀ a, (k0_off7 v22) a + S1x49152.size a ≤ S512x49152.size a)
theorem k0_off7_inb : ∀ (v22 : BitVec 32) (k0_hw6 : k0_chk6 v22), ∀ a, (k0_off7 v22) a + S1x49152.size a ≤ S512x49152.size a := fun v22 k0_hw6 => k0_hw6

def k0_off8 (v26 : BitVec 32) : Fin 2 → Nat :=
  let c0_i32_20 : BitVec 32 := 0#32
  ![v26.toNat, 0]

def k0_chk7 (v26 : BitVec 32) : Prop :=
  (∀ a, (k0_off8 v26) a + S1x49152.size a ≤ S512x49152.size a)
theorem k0_off8_inb : ∀ (v26 : BitVec 32) (k0_hw7 : k0_chk7 v26), ∀ a, (k0_off8 v26) a + S1x49152.size a ≤ S512x49152.size a := fun v26 k0_hw7 => k0_hw7

def k0_off9 (v30 : BitVec 32) : Fin 2 → Nat :=
  let c0_i32_23 : BitVec 32 := 0#32
  ![v30.toNat, 0]

def k0_chk8 (v30 : BitVec 32) : Prop :=
  (∀ a, (k0_off9 v30) a + S1x49152.size a ≤ S512x49152.size a)
theorem k0_off9_inb : ∀ (v30 : BitVec 32) (k0_hw8 : k0_chk8 v30), ∀ a, (k0_off9 v30) a + S1x49152.size a ≤ S512x49152.size a := fun v30 k0_hw8 => k0_hw8

def k0_off10 (v34 : BitVec 32) : Fin 2 → Nat :=
  let c0_i32_27 : BitVec 32 := 0#32
  ![v34.toNat, 0]

def k0_chk9 (v34 : BitVec 32) : Prop :=
  (∀ a, (k0_off10 v34) a + S1x49152.size a ≤ S512x49152.size a)
theorem k0_off10_inb : ∀ (v34 : BitVec 32) (k0_hw9 : k0_chk9 v34), ∀ a, (k0_off10 v34) a + S1x49152.size a ≤ S512x49152.size a := fun v34 k0_hw9 => k0_hw9

def k0_off11 (i : grid0.Coords) : Fin 2 → Nat :=
  let arg0 : BitVec 32 := BitVec.ofNat 32 (i 0).val
  let c512_i32 : BitVec 32 := 512#32
  let v0 : BitVec 32 := Scalar.muli arg0 c512_i32
  let c0_i32_28 : BitVec 32 := 0#32
  let v37 : BitVec 32 := Scalar.addi v0 c0_i32_28
  let c0_i32_29 : BitVec 32 := 0#32
  ![v37.toNat, 0]
def k0_off12 (v41 : BitVec 32) : Fin 2 → Nat :=
  let c0_i32_35 : BitVec 32 := 0#32
  ![v41.toNat, 0]

def k0_chk10 (v41 : BitVec 32) : Prop :=
  (∀ a, (k0_off12 v41) a + S1x49152.size a ≤ S512x49152.size a)
theorem k0_off12_inb : ∀ (v41 : BitVec 32) (k0_hw10 : k0_chk10 v41), ∀ a, (k0_off12 v41) a + S1x49152.size a ≤ S512x49152.size a := fun v41 k0_hw10 => k0_hw10

def k0_off13 (i : grid0.Coords) : Fin 2 → Nat :=
  let arg0 : BitVec 32 := BitVec.ofNat 32 (i 0).val
  let c512_i32 : BitVec 32 := 512#32
  let v0 : BitVec 32 := Scalar.muli arg0 c512_i32
  let c1_i32_36 : BitVec 32 := 1#32
  let v44 : BitVec 32 := Scalar.addi v0 c1_i32_36
  let c0_i32_37 : BitVec 32 := 0#32
  ![v44.toNat, 0]
def k0_off14 (v48 : BitVec 32) : Fin 2 → Nat :=
  let c0_i32_43 : BitVec 32 := 0#32
  ![v48.toNat, 0]

def k0_chk11 (v48 : BitVec 32) : Prop :=
  (∀ a, (k0_off14 v48) a + S1x49152.size a ≤ S512x49152.size a)
theorem k0_off14_inb : ∀ (v48 : BitVec 32) (k0_hw11 : k0_chk11 v48), ∀ a, (k0_off14 v48) a + S1x49152.size a ≤ S512x49152.size a := fun v48 k0_hw11 => k0_hw11

def k0_off15 (i : grid0.Coords) : Fin 2 → Nat :=
  let arg0 : BitVec 32 := BitVec.ofNat 32 (i 0).val
  let c512_i32 : BitVec 32 := 512#32
  let v0 : BitVec 32 := Scalar.muli arg0 c512_i32
  let c2_i32_44 : BitVec 32 := 2#32
  let v51 : BitVec 32 := Scalar.addi v0 c2_i32_44
  let c0_i32_45 : BitVec 32 := 0#32
  ![v51.toNat, 0]
def k0_off16 (v55 : BitVec 32) : Fin 2 → Nat :=
  let c0_i32_51 : BitVec 32 := 0#32
  ![v55.toNat, 0]

def k0_chk12 (v55 : BitVec 32) : Prop :=
  (∀ a, (k0_off16 v55) a + S1x49152.size a ≤ S512x49152.size a)
theorem k0_off16_inb : ∀ (v55 : BitVec 32) (k0_hw12 : k0_chk12 v55), ∀ a, (k0_off16 v55) a + S1x49152.size a ≤ S512x49152.size a := fun v55 k0_hw12 => k0_hw12

def k0_off17 (i : grid0.Coords) : Fin 2 → Nat :=
  let arg0 : BitVec 32 := BitVec.ofNat 32 (i 0).val
  let c512_i32 : BitVec 32 := 512#32
  let v0 : BitVec 32 := Scalar.muli arg0 c512_i32
  let c3_i32_52 : BitVec 32 := 3#32
  let v58 : BitVec 32 := Scalar.addi v0 c3_i32_52
  let c0_i32_53 : BitVec 32 := 0#32
  ![v58.toNat, 0]
def k0_off18 (v62 : BitVec 32) : Fin 2 → Nat :=
  let c0_i32_59 : BitVec 32 := 0#32
  ![v62.toNat, 0]

def k0_chk13 (v62 : BitVec 32) : Prop :=
  (∀ a, (k0_off18 v62) a + S1x49152.size a ≤ S512x49152.size a)
theorem k0_off18_inb : ∀ (v62 : BitVec 32) (k0_hw13 : k0_chk13 v62), ∀ a, (k0_off18 v62) a + S1x49152.size a ≤ S512x49152.size a := fun v62 k0_hw13 => k0_hw13

def k0_off19 (i : grid0.Coords) : Fin 2 → Nat :=
  let arg0 : BitVec 32 := BitVec.ofNat 32 (i 0).val
  let c512_i32 : BitVec 32 := 512#32
  let v0 : BitVec 32 := Scalar.muli arg0 c512_i32
  let c4_i32_60 : BitVec 32 := 4#32
  let v65 : BitVec 32 := Scalar.addi v0 c4_i32_60
  let c0_i32_61 : BitVec 32 := 0#32
  ![v65.toNat, 0]
def k0_off20 (v69 : BitVec 32) : Fin 2 → Nat :=
  let c0_i32_67 : BitVec 32 := 0#32
  ![v69.toNat, 0]

def k0_chk14 (v69 : BitVec 32) : Prop :=
  (∀ a, (k0_off20 v69) a + S1x49152.size a ≤ S512x49152.size a)
theorem k0_off20_inb : ∀ (v69 : BitVec 32) (k0_hw14 : k0_chk14 v69), ∀ a, (k0_off20 v69) a + S1x49152.size a ≤ S512x49152.size a := fun v69 k0_hw14 => k0_hw14

def k0_off21 (i : grid0.Coords) : Fin 2 → Nat :=
  let arg0 : BitVec 32 := BitVec.ofNat 32 (i 0).val
  let c512_i32 : BitVec 32 := 512#32
  let v0 : BitVec 32 := Scalar.muli arg0 c512_i32
  let c5_i32_68 : BitVec 32 := 5#32
  let v72 : BitVec 32 := Scalar.addi v0 c5_i32_68
  let c0_i32_69 : BitVec 32 := 0#32
  ![v72.toNat, 0]
def k0_off22 (v76 : BitVec 32) : Fin 2 → Nat :=
  let c0_i32_75 : BitVec 32 := 0#32
  ![v76.toNat, 0]

def k0_chk15 (v76 : BitVec 32) : Prop :=
  (∀ a, (k0_off22 v76) a + S1x49152.size a ≤ S512x49152.size a)
theorem k0_off22_inb : ∀ (v76 : BitVec 32) (k0_hw15 : k0_chk15 v76), ∀ a, (k0_off22 v76) a + S1x49152.size a ≤ S512x49152.size a := fun v76 k0_hw15 => k0_hw15

def k0_off23 (i : grid0.Coords) : Fin 2 → Nat :=
  let arg0 : BitVec 32 := BitVec.ofNat 32 (i 0).val
  let c512_i32 : BitVec 32 := 512#32
  let v0 : BitVec 32 := Scalar.muli arg0 c512_i32
  let c6_i32_76 : BitVec 32 := 6#32
  let v79 : BitVec 32 := Scalar.addi v0 c6_i32_76
  let c0_i32_77 : BitVec 32 := 0#32
  ![v79.toNat, 0]
def k0_off24 (v83 : BitVec 32) : Fin 2 → Nat :=
  let c0_i32_83 : BitVec 32 := 0#32
  ![v83.toNat, 0]

def k0_chk16 (v83 : BitVec 32) : Prop :=
  (∀ a, (k0_off24 v83) a + S1x49152.size a ≤ S512x49152.size a)
theorem k0_off24_inb : ∀ (v83 : BitVec 32) (k0_hw16 : k0_chk16 v83), ∀ a, (k0_off24 v83) a + S1x49152.size a ≤ S512x49152.size a := fun v83 k0_hw16 => k0_hw16

def k0_off25 (i : grid0.Coords) (c7_i32_84 : BitVec 32) : Fin 2 → Nat :=
  let arg0 : BitVec 32 := BitVec.ofNat 32 (i 0).val
  let c512_i32 : BitVec 32 := 512#32
  let v0 : BitVec 32 := Scalar.muli arg0 c512_i32
  let v86 : BitVec 32 := Scalar.addi v0 c7_i32_84
  let c0_i32_85 : BitVec 32 := 0#32
  ![v86.toNat, 0]
@[reducible] def k0_t1_loop : Scf.Loop 32 :=
  let c0_i32_88 : BitVec 32 := 0#32
  let c63_i32 : BitVec 32 := 63#32
  let v89 : BitVec 32 := Scalar.addi c0_i32_88 c63_i32
  let c1_i32_89 : BitVec 32 := 1#32
  ⟨c0_i32_88, v89, c1_i32_89⟩
def k0_off26 (i : grid0.Coords) : Fin 2 → Nat :=
  let arg0 : BitVec 32 := BitVec.ofNat 32 (i 0).val
  let c512_i32 : BitVec 32 := 512#32
  let v0 : BitVec 32 := Scalar.muli arg0 c512_i32
  let c0_i32_125 : BitVec 32 := 0#32
  let v117 : BitVec 32 := Scalar.addi v0 c0_i32_125
  let c0_i32_126 : BitVec 32 := 0#32
  ![v117.toNat, 0]
def k0_off27 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c0_i32_129 : BitVec 32 := 0#32
  let v120 : BitVec 32 := Scalar.addi v116 c0_i32_129
  let v121 : Index := Scalar.indexCast v120
  ![v121.toNat]
def k0_off28 (v122 : BitVec 32) : Fin 2 → Nat :=
  let c0_i32_132 : BitVec 32 := 0#32
  ![v122.toNat, 0]

def k0_chk17 (v122 : BitVec 32) : Prop :=
  (∀ a, (k0_off28 v122) a + S1x49152.size a ≤ S512x49152.size a)
theorem k0_off28_inb : ∀ (v122 : BitVec 32) (k0_hw17 : k0_chk17 v122), ∀ a, (k0_off28 v122) a + S1x49152.size a ≤ S512x49152.size a := fun v122 k0_hw17 => k0_hw17

def k0_off29 (i : grid0.Coords) : Fin 2 → Nat :=
  let arg0 : BitVec 32 := BitVec.ofNat 32 (i 0).val
  let c512_i32 : BitVec 32 := 512#32
  let v0 : BitVec 32 := Scalar.muli arg0 c512_i32
  let c0_i32_133 : BitVec 32 := 0#32
  let v125 : BitVec 32 := Scalar.addi v0 c0_i32_133
  let c0_i32_134 : BitVec 32 := 0#32
  ![v125.toNat, 0]
def k0_off30 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c1_i32_137 : BitVec 32 := 1#32
  let v128 : BitVec 32 := Scalar.addi v116 c1_i32_137
  let v129 : Index := Scalar.indexCast v128
  ![v129.toNat]
def k0_off31 (v130 : BitVec 32) : Fin 2 → Nat :=
  let c0_i32_140 : BitVec 32 := 0#32
  ![v130.toNat, 0]

def k0_chk18 (v130 : BitVec 32) : Prop :=
  (∀ a, (k0_off31 v130) a + S1x49152.size a ≤ S512x49152.size a)
theorem k0_off31_inb : ∀ (v130 : BitVec 32) (k0_hw18 : k0_chk18 v130), ∀ a, (k0_off31 v130) a + S1x49152.size a ≤ S512x49152.size a := fun v130 k0_hw18 => k0_hw18

def k0_off32 (i : grid0.Coords) : Fin 2 → Nat :=
  let arg0 : BitVec 32 := BitVec.ofNat 32 (i 0).val
  let c512_i32 : BitVec 32 := 512#32
  let v0 : BitVec 32 := Scalar.muli arg0 c512_i32
  let c0_i32_141 : BitVec 32 := 0#32
  let v133 : BitVec 32 := Scalar.addi v0 c0_i32_141
  let c0_i32_142 : BitVec 32 := 0#32
  ![v133.toNat, 0]
def k0_off33 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c2_i32_145 : BitVec 32 := 2#32
  let v136 : BitVec 32 := Scalar.addi v116 c2_i32_145
  let v137 : Index := Scalar.indexCast v136
  ![v137.toNat]
def k0_off34 (v138 : BitVec 32) : Fin 2 → Nat :=
  let c0_i32_148 : BitVec 32 := 0#32
  ![v138.toNat, 0]

def k0_chk19 (v138 : BitVec 32) : Prop :=
  (∀ a, (k0_off34 v138) a + S1x49152.size a ≤ S512x49152.size a)
theorem k0_off34_inb : ∀ (v138 : BitVec 32) (k0_hw19 : k0_chk19 v138), ∀ a, (k0_off34 v138) a + S1x49152.size a ≤ S512x49152.size a := fun v138 k0_hw19 => k0_hw19

def k0_off35 (i : grid0.Coords) : Fin 2 → Nat :=
  let arg0 : BitVec 32 := BitVec.ofNat 32 (i 0).val
  let c512_i32 : BitVec 32 := 512#32
  let v0 : BitVec 32 := Scalar.muli arg0 c512_i32
  let c0_i32_149 : BitVec 32 := 0#32
  let v141 : BitVec 32 := Scalar.addi v0 c0_i32_149
  let c0_i32_150 : BitVec 32 := 0#32
  ![v141.toNat, 0]
def k0_off36 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c3_i32_153 : BitVec 32 := 3#32
  let v144 : BitVec 32 := Scalar.addi v116 c3_i32_153
  let v145 : Index := Scalar.indexCast v144
  ![v145.toNat]
def k0_off37 (v146 : BitVec 32) : Fin 2 → Nat :=
  let c0_i32_156 : BitVec 32 := 0#32
  ![v146.toNat, 0]

def k0_chk20 (v146 : BitVec 32) : Prop :=
  (∀ a, (k0_off37 v146) a + S1x49152.size a ≤ S512x49152.size a)
theorem k0_off37_inb : ∀ (v146 : BitVec 32) (k0_hw20 : k0_chk20 v146), ∀ a, (k0_off37 v146) a + S1x49152.size a ≤ S512x49152.size a := fun v146 k0_hw20 => k0_hw20

def k0_off38 (i : grid0.Coords) : Fin 2 → Nat :=
  let arg0 : BitVec 32 := BitVec.ofNat 32 (i 0).val
  let c512_i32 : BitVec 32 := 512#32
  let v0 : BitVec 32 := Scalar.muli arg0 c512_i32
  let c0_i32_157 : BitVec 32 := 0#32
  let v149 : BitVec 32 := Scalar.addi v0 c0_i32_157
  let c0_i32_158 : BitVec 32 := 0#32
  ![v149.toNat, 0]
def k0_off39 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c4_i32_161 : BitVec 32 := 4#32
  let v152 : BitVec 32 := Scalar.addi v116 c4_i32_161
  let v153 : Index := Scalar.indexCast v152
  ![v153.toNat]
def k0_off40 (v154 : BitVec 32) : Fin 2 → Nat :=
  let c0_i32_164 : BitVec 32 := 0#32
  ![v154.toNat, 0]

def k0_chk21 (v154 : BitVec 32) : Prop :=
  (∀ a, (k0_off40 v154) a + S1x49152.size a ≤ S512x49152.size a)
theorem k0_off40_inb : ∀ (v154 : BitVec 32) (k0_hw21 : k0_chk21 v154), ∀ a, (k0_off40 v154) a + S1x49152.size a ≤ S512x49152.size a := fun v154 k0_hw21 => k0_hw21

def k0_off41 (i : grid0.Coords) : Fin 2 → Nat :=
  let arg0 : BitVec 32 := BitVec.ofNat 32 (i 0).val
  let c512_i32 : BitVec 32 := 512#32
  let v0 : BitVec 32 := Scalar.muli arg0 c512_i32
  let c0_i32_165 : BitVec 32 := 0#32
  let v157 : BitVec 32 := Scalar.addi v0 c0_i32_165
  let c0_i32_166 : BitVec 32 := 0#32
  ![v157.toNat, 0]
def k0_off42 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c5_i32_169 : BitVec 32 := 5#32
  let v160 : BitVec 32 := Scalar.addi v116 c5_i32_169
  let v161 : Index := Scalar.indexCast v160
  ![v161.toNat]
def k0_off43 (v162 : BitVec 32) : Fin 2 → Nat :=
  let c0_i32_172 : BitVec 32 := 0#32
  ![v162.toNat, 0]

def k0_chk22 (v162 : BitVec 32) : Prop :=
  (∀ a, (k0_off43 v162) a + S1x49152.size a ≤ S512x49152.size a)
theorem k0_off43_inb : ∀ (v162 : BitVec 32) (k0_hw22 : k0_chk22 v162), ∀ a, (k0_off43 v162) a + S1x49152.size a ≤ S512x49152.size a := fun v162 k0_hw22 => k0_hw22

def k0_off44 (i : grid0.Coords) : Fin 2 → Nat :=
  let arg0 : BitVec 32 := BitVec.ofNat 32 (i 0).val
  let c512_i32 : BitVec 32 := 512#32
  let v0 : BitVec 32 := Scalar.muli arg0 c512_i32
  let c0_i32_173 : BitVec 32 := 0#32
  let v165 : BitVec 32 := Scalar.addi v0 c0_i32_173
  let c0_i32_174 : BitVec 32 := 0#32
  ![v165.toNat, 0]
def k0_off45 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c6_i32_177 : BitVec 32 := 6#32
  let v168 : BitVec 32 := Scalar.addi v116 c6_i32_177
  let v169 : Index := Scalar.indexCast v168
  ![v169.toNat]
def k0_off46 (v170 : BitVec 32) : Fin 2 → Nat :=
  let c0_i32_180 : BitVec 32 := 0#32
  ![v170.toNat, 0]

def k0_chk23 (v170 : BitVec 32) : Prop :=
  (∀ a, (k0_off46 v170) a + S1x49152.size a ≤ S512x49152.size a)
theorem k0_off46_inb : ∀ (v170 : BitVec 32) (k0_hw23 : k0_chk23 v170), ∀ a, (k0_off46 v170) a + S1x49152.size a ≤ S512x49152.size a := fun v170 k0_hw23 => k0_hw23

def k0_off47 (i : grid0.Coords) : Fin 2 → Nat :=
  let arg0 : BitVec 32 := BitVec.ofNat 32 (i 0).val
  let c512_i32 : BitVec 32 := 512#32
  let v0 : BitVec 32 := Scalar.muli arg0 c512_i32
  let c0_i32_181 : BitVec 32 := 0#32
  let v173 : BitVec 32 := Scalar.addi v0 c0_i32_181
  let c0_i32_182 : BitVec 32 := 0#32
  ![v173.toNat, 0]
def k0_off48 (k0_t1 : Fin k0_t1_loop.trips) : Fin 1 → Nat :=
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c7_i32_185 : BitVec 32 := 7#32
  let v176 : BitVec 32 := Scalar.addi v116 c7_i32_185
  let v177 : Index := Scalar.indexCast v176
  ![v177.toNat]
def k0_off49 (v178 : BitVec 32) : Fin 2 → Nat :=
  let c0_i32_188 : BitVec 32 := 0#32
  ![v178.toNat, 0]

def k0_chk24 (v178 : BitVec 32) : Prop :=
  (∀ a, (k0_off49 v178) a + S1x49152.size a ≤ S512x49152.size a)
theorem k0_off49_inb : ∀ (v178 : BitVec 32) (k0_hw24 : k0_chk24 v178), ∀ a, (k0_off49 v178) a + S1x49152.size a ≤ S512x49152.size a := fun v178 k0_hw24 => k0_hw24

def k0_off50 (v182 : BitVec 32) : Fin 2 → Nat :=
  let c0_i32_192 : BitVec 32 := 0#32
  ![v182.toNat, 0]

def k0_chk25 (v182 : BitVec 32) : Prop :=
  (∀ a, (k0_off50 v182) a + S1x49152.size a ≤ S512x49152.size a)
theorem k0_off50_inb : ∀ (v182 : BitVec 32) (k0_hw25 : k0_chk25 v182), ∀ a, (k0_off50 v182) a + S1x49152.size a ≤ S512x49152.size a := fun v182 k0_hw25 => k0_hw25

def k0_off51 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c0_i32_193 : BitVec 32 := 0#32
  let v185 : BitVec 32 := Scalar.addi v116 c0_i32_193
  let v186 : BitVec 32 := Scalar.addi v0 v185
  let c0_i32_194 : BitVec 32 := 0#32
  ![v186.toNat, 0]
def k0_off52 (v190 : BitVec 32) : Fin 2 → Nat :=
  let c0_i32_200 : BitVec 32 := 0#32
  ![v190.toNat, 0]

def k0_chk26 (v190 : BitVec 32) : Prop :=
  (∀ a, (k0_off52 v190) a + S1x49152.size a ≤ S512x49152.size a)
theorem k0_off52_inb : ∀ (v190 : BitVec 32) (k0_hw26 : k0_chk26 v190), ∀ a, (k0_off52 v190) a + S1x49152.size a ≤ S512x49152.size a := fun v190 k0_hw26 => k0_hw26

def k0_off53 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c1_i32_201 : BitVec 32 := 1#32
  let v193 : BitVec 32 := Scalar.addi v116 c1_i32_201
  let v194 : BitVec 32 := Scalar.addi v0 v193
  let c0_i32_202 : BitVec 32 := 0#32
  ![v194.toNat, 0]
def k0_off54 (v198 : BitVec 32) : Fin 2 → Nat :=
  let c0_i32_208 : BitVec 32 := 0#32
  ![v198.toNat, 0]

def k0_chk27 (v198 : BitVec 32) : Prop :=
  (∀ a, (k0_off54 v198) a + S1x49152.size a ≤ S512x49152.size a)
theorem k0_off54_inb : ∀ (v198 : BitVec 32) (k0_hw27 : k0_chk27 v198), ∀ a, (k0_off54 v198) a + S1x49152.size a ≤ S512x49152.size a := fun v198 k0_hw27 => k0_hw27

def k0_off55 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c2_i32_209 : BitVec 32 := 2#32
  let v201 : BitVec 32 := Scalar.addi v116 c2_i32_209
  let v202 : BitVec 32 := Scalar.addi v0 v201
  let c0_i32_210 : BitVec 32 := 0#32
  ![v202.toNat, 0]
def k0_off56 (v206 : BitVec 32) : Fin 2 → Nat :=
  let c0_i32_216 : BitVec 32 := 0#32
  ![v206.toNat, 0]

def k0_chk28 (v206 : BitVec 32) : Prop :=
  (∀ a, (k0_off56 v206) a + S1x49152.size a ≤ S512x49152.size a)
theorem k0_off56_inb : ∀ (v206 : BitVec 32) (k0_hw28 : k0_chk28 v206), ∀ a, (k0_off56 v206) a + S1x49152.size a ≤ S512x49152.size a := fun v206 k0_hw28 => k0_hw28

def k0_off57 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c3_i32_217 : BitVec 32 := 3#32
  let v209 : BitVec 32 := Scalar.addi v116 c3_i32_217
  let v210 : BitVec 32 := Scalar.addi v0 v209
  let c0_i32_218 : BitVec 32 := 0#32
  ![v210.toNat, 0]
def k0_off58 (v214 : BitVec 32) : Fin 2 → Nat :=
  let c0_i32_224 : BitVec 32 := 0#32
  ![v214.toNat, 0]

def k0_chk29 (v214 : BitVec 32) : Prop :=
  (∀ a, (k0_off58 v214) a + S1x49152.size a ≤ S512x49152.size a)
theorem k0_off58_inb : ∀ (v214 : BitVec 32) (k0_hw29 : k0_chk29 v214), ∀ a, (k0_off58 v214) a + S1x49152.size a ≤ S512x49152.size a := fun v214 k0_hw29 => k0_hw29

def k0_off59 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c4_i32_225 : BitVec 32 := 4#32
  let v217 : BitVec 32 := Scalar.addi v116 c4_i32_225
  let v218 : BitVec 32 := Scalar.addi v0 v217
  let c0_i32_226 : BitVec 32 := 0#32
  ![v218.toNat, 0]
def k0_off60 (v222 : BitVec 32) : Fin 2 → Nat :=
  let c0_i32_232 : BitVec 32 := 0#32
  ![v222.toNat, 0]

def k0_chk30 (v222 : BitVec 32) : Prop :=
  (∀ a, (k0_off60 v222) a + S1x49152.size a ≤ S512x49152.size a)
theorem k0_off60_inb : ∀ (v222 : BitVec 32) (k0_hw30 : k0_chk30 v222), ∀ a, (k0_off60 v222) a + S1x49152.size a ≤ S512x49152.size a := fun v222 k0_hw30 => k0_hw30

def k0_off61 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c5_i32_233 : BitVec 32 := 5#32
  let v225 : BitVec 32 := Scalar.addi v116 c5_i32_233
  let v226 : BitVec 32 := Scalar.addi v0 v225
  let c0_i32_234 : BitVec 32 := 0#32
  ![v226.toNat, 0]
def k0_off62 (v230 : BitVec 32) : Fin 2 → Nat :=
  let c0_i32_240 : BitVec 32 := 0#32
  ![v230.toNat, 0]

def k0_chk31 (v230 : BitVec 32) : Prop :=
  (∀ a, (k0_off62 v230) a + S1x49152.size a ≤ S512x49152.size a)
theorem k0_off62_inb : ∀ (v230 : BitVec 32) (k0_hw31 : k0_chk31 v230), ∀ a, (k0_off62 v230) a + S1x49152.size a ≤ S512x49152.size a := fun v230 k0_hw31 => k0_hw31

def k0_off63 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c6_i32_241 : BitVec 32 := 6#32
  let v233 : BitVec 32 := Scalar.addi v116 c6_i32_241
  let v234 : BitVec 32 := Scalar.addi v0 v233
  let c0_i32_242 : BitVec 32 := 0#32
  ![v234.toNat, 0]
def k0_off64 (v238 : BitVec 32) : Fin 2 → Nat :=
  let c0_i32_248 : BitVec 32 := 0#32
  ![v238.toNat, 0]

def k0_chk32 (v238 : BitVec 32) : Prop :=
  (∀ a, (k0_off64 v238) a + S1x49152.size a ≤ S512x49152.size a)
theorem k0_off64_inb : ∀ (v238 : BitVec 32) (k0_hw32 : k0_chk32 v238), ∀ a, (k0_off64 v238) a + S1x49152.size a ≤ S512x49152.size a := fun v238 k0_hw32 => k0_hw32

def k0_off65 (i : grid0.Coords) (k0_t1 : Fin k0_t1_loop.trips) : Fin 2 → Nat :=
  let arg0 : BitVec 32 := BitVec.ofNat 32 (i 0).val
  let c512_i32 : BitVec 32 := 512#32
  let v0 : BitVec 32 := Scalar.muli arg0 c512_i32
  let c1_i32_124 : BitVec 32 := 1#32
  let c0_i32_88 : BitVec 32 := 0#32
  let c1_i32_89 : BitVec 32 := 1#32
  let arg22 : BitVec 32 := Scf.iv c0_i32_88 c1_i32_89 k0_t1
  let c1_i32_123 : BitVec 32 := 1#32
  let v114 : BitVec 32 := Scalar.muli arg22 c1_i32_123
  let v115 : BitVec 32 := Scalar.addi c1_i32_124 v114
  let c8_i32 : BitVec 32 := 8#32
  let v116 : BitVec 32 := Scalar.muli v115 c8_i32
  let c7_i32_249 : BitVec 32 := 7#32
  let v241 : BitVec 32 := Scalar.addi v116 c7_i32_249
  let v242 : BitVec 32 := Scalar.addi v0 v241
  let c0_i32_250 : BitVec 32 := 0#32
  ![v242.toNat, 0]
abbrev scKind : Fin 1 → Kind := fun | 0 => .scScalar | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S8x128 : Shape := ⟨2, ![8, 128]⟩
abbrev S512x49152 : Shape := ⟨2, ![512, 49152]⟩
abbrev S_ : Shape := ⟨0, ![]⟩
abbrev S8x128x1 : Shape := ⟨3, ![8, 128, 1]⟩
abbrev S1 : Shape := ⟨1, ![1]⟩
abbrev S1x1x1 : Shape := ⟨3, ![1, 1, 1]⟩
abbrev S8x128x49152 : Shape := ⟨3, ![8, 128, 49152]⟩

abbrev nBuf : Space → Nat
  | .hbm => 25
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S512x49152, .f32⟩
  | .hbm, ⟨2, _⟩ => ⟨S_, .i32⟩
  | .hbm, ⟨3, _⟩ => ⟨S8x128, .i32⟩
  | .hbm, ⟨4, _⟩ => ⟨S8x128, .i1⟩
  | .hbm, ⟨5, _⟩ => ⟨S_, .i32⟩
  | .hbm, ⟨6, _⟩ => ⟨S8x128, .i32⟩
  | .hbm, ⟨7, _⟩ => ⟨S8x128, .i32⟩
  | .hbm, ⟨8, _⟩ => ⟨S8x128, .i32⟩
  | .hbm, ⟨9, _⟩ => ⟨S8x128x1, .i32⟩
  | .hbm, ⟨10, _⟩ => ⟨S1, .i32⟩
  | .hbm, ⟨11, _⟩ => ⟨S_, .i32⟩
  | .hbm, ⟨12, _⟩ => ⟨S8x128x1, .i32⟩
  | .hbm, ⟨13, _⟩ => ⟨S8x128x1, .i1⟩
  | .hbm, ⟨14, _⟩ => ⟨S1x1x1, .i32⟩
  | .hbm, ⟨15, _⟩ => ⟨S8x128x1, .i32⟩
  | .hbm, ⟨16, _⟩ => ⟨S8x128x1, .i1⟩
  | .hbm, ⟨17, _⟩ => ⟨S8x128x1, .i1⟩
  | .hbm, ⟨18, _⟩ => ⟨S_, .i1⟩
  | .hbm, ⟨19, _⟩ => ⟨S8x128, .i1⟩
  | .hbm, ⟨20, _⟩ => ⟨S8x128x49152, .f32⟩
  | .hbm, ⟨21, _⟩ => ⟨S8x128x49152, .i1⟩
  | .hbm, ⟨22, _⟩ => ⟨S_, .f32⟩
  | .hbm, ⟨23, _⟩ => ⟨S8x128x49152, .f32⟩
  | .hbm, ⟨24, _⟩ => ⟨S8x128x49152, .f32⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Setup.lean ====
/-
  The gather of table rows by two sequencers: the program as the launch theorem sees it, the memory the kernel works
  on under short names, and what a sequencer holds between two statements of its body.

  Each SparseCore's sequencer copies its 512 index words into scalar memory and moves 512 rows of the table into its
  half of the result, through eight one-row slots of the SparseCore's shared memory. Slot `t` serves the rows whose
  number is `t` modulo 8, with two DMA cells of its own: cell `t` for the row's way in, cell `8 + t` for its way out.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Ring
public import proofs.«01_k».proof.Proof.Gen.KernelIdeal

@[expose] public section

noncomputable section

namespace Cert.Proof.RowGather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources of a launch of this program: the hand-over's rounds beside the transfers' counters. -/
local notation "𝕄" => MT nD τ sig (HIx 1) (Elt F) ℕ UU ℕ

abbrev EH : Emb UH (MT nD τ sig (HIx 1) (Elt F) ℕ UU ℕ) := embL

/-! ## The memory -/

/-- The table, the flat indices and the result, and the sequencer's index words and the eight slots, each whole. -/
abbrev tabM : Memref sig .scScalar .hbm S512x49152 .f32 := Memref.whole main_arg1_scs
abbrev idxM : Memref sig .scScalar .hbm S1024 .i32 := Memref.whole main_v0_scs
abbrev resM : Memref sig .scScalar .hbm S1024x49152 .f32 := Memref.whole main_v1_scs
abbrev wordM : Memref sig .scScalar .smem S512 .i32 := Memref.whole cc0_scratch0
abbrev slotM : Memref sig .scScalar .shared S8x49152 .f32 := Memref.whole cc0_scratch1

/-- The sequencer of the SparseCore at grid point `i`. -/
abbrev seqr (d : Dev nD) (i : grid0.Coords) : Thread nD τ := S d ((i 0).castLE hcore0)

/-- Slot `t`'s two cells: its row's way in and its row's way out. -/
abbrev cellIn (t : Fin 8) : DmaSem sig := ⟨t.val, Nat.lt_of_lt_of_le t.isLt (by decide)⟩
abbrev cellOut (t : Fin 8) : DmaSem sig := ⟨8 + t.val, Nat.lt_of_lt_of_le (Nat.add_lt_add_left t.isLt 8) (by decide)⟩

/-- Slot `t`, and row `r` of the table and of the result, each of one row. -/
abbrev slotRow (off : Fin 2 → ℕ) (h : ∀ a, off a + S1x49152.size a ≤ S8x49152.size a) : Memref sig .scScalar .shared S1x49152 .f32 :=
  slotM.slice (Rect.unit (s := S8x49152) off S1x49152.size h) (fun _ => rfl)
abbrev tabRow (off : Fin 2 → ℕ) (h : ∀ a, off a + S1x49152.size a ≤ S512x49152.size a) : Memref sig .scScalar .hbm S1x49152 .f32 :=
  tabM.slice (Rect.unit (s := S512x49152) off S1x49152.size h) (fun _ => rfl)
abbrev resRow (off : Fin 2 → ℕ) (h : ∀ a, off a + S1x49152.size a ≤ S1024x49152.size a) : Memref sig .scScalar .hbm S1x49152 .f32 :=
  resM.slice (Rect.unit (s := S1024x49152) off S1x49152.size h) (fun _ => rfl)

/-- What the copy of one row into a slot, and into the result, credits its cell. -/
abbrev creditIn : ℕ := (slotRow ![0, 0] (by decide)).view.dmaCredit
abbrev creditOut : ℕ := (resRow ![0, 0] (by decide)).view.dmaCredit

/-! ## Where the rows lie -/

/-- The elements of slot `t`. -/
def slotSet (t : ℕ) : Finset S8x49152.Idx := Finset.univ.filter fun p => (p 0).val = t

/-- The elements of the result rows that SparseCore `c` writes through slot `t` in rounds `lo` to `hi - 1`. -/
def rowSet (c t lo hi : ℕ) : Finset S1024x49152.Idx :=
  Finset.univ.filter fun p => (p 0).val / 512 = c ∧ (p 0).val % 8 = t ∧ lo ≤ (p 0).val % 512 / 8 ∧ (p 0).val % 512 / 8 < hi

theorem mem_slotSet {t : ℕ} {p : S8x49152.Idx} : p ∈ slotSet t ↔ (p 0).val = t := by simp [slotSet]

theorem mem_rowSet {c t lo hi : ℕ} {p : S1024x49152.Idx} :
    p ∈ rowSet c t lo hi ↔ (p 0).val / 512 = c ∧ (p 0).val % 8 = t ∧ lo ≤ (p 0).val % 512 / 8 ∧ (p 0).val % 512 / 8 < hi := by
  simp [rowSet]

theorem rowSet_union {c t lo mid hi : ℕ} (h₁ : lo ≤ mid) (h₂ : mid ≤ hi) : rowSet c t lo mid ∪ rowSet c t mid hi = rowSet c t lo hi := by
  ext p; simp only [Finset.mem_union, mem_rowSet]; omega

theorem rowSet_disjoint {c t lo mid hi : ℕ} : Disjoint (rowSet c t lo mid) (rowSet c t mid hi) := by
  rw [Finset.disjoint_left]; intro p h h'; rw [mem_rowSet] at h h'; omega

theorem rowSet_empty {c t j : ℕ} : rowSet c t j j = ∅ := by
  ext p; simp only [mem_rowSet, Finset.notMem_empty, iff_false]; omega

theorem slotRow_set {t : ℕ} {off : Fin 2 → ℕ} (hoff : off = ![t, 0]) (h) : (slotRow off h).view.set = slotSet t := by
  subst hoff
  rw [View.set_slice_whole]
  ext p
  rw [LoadRect.mem_set, mem_slotSet]
  have h1 : (p 1).val < 49152 := (p 1).isLt
  constructor
  · intro e
    obtain ⟨k, hk, e⟩ := e 0
    change k < 1 at hk; change (p 0).val = t + 1 * k at e
    omega
  · intro e a
    match a with
    | 0 => exact ⟨0, Nat.one_pos, show (p 0).val = t + 1 * 0 by omega⟩
    | 1 => exact ⟨(p 1).val, h1, show (p 1).val = 0 + 1 * (p 1).val by omega⟩

theorem resRow_set {c t j : ℕ} (ht : t < 8) (hj : j < 64) {off : Fin 2 → ℕ} (hoff : off = ![512 * c + 8 * j + t, 0]) (h) :
    (resRow off h).view.set = rowSet c t j (j + 1) := by
  subst hoff
  rw [View.set_slice_whole]
  ext p
  rw [LoadRect.mem_set, mem_rowSet]
  have h1 : (p 1).val < 49152 := (p 1).isLt
  constructor
  · intro e
    obtain ⟨k, hk, e⟩ := e 0
    change k < 1 at hk; change (p 0).val = (512 * c + 8 * j + t) + 1 * k at e
    omega
  · intro e a
    match a with
    | 0 => exact ⟨0, Nat.one_pos, show (p 0).val = (512 * c + 8 * j + t) + 1 * 0 by omega⟩
    | 1 => exact ⟨(p 1).val, h1, show (p 1).val = 0 + 1 * (p 1).val by omega⟩

/-! ## The contents -/

/-- Element `x` of the table's row that an index word names. -/
def tabAt (w : BitVec 32) (x : Fin 49152) : S512x49152.Idx := fun
  | 0 => ⟨w.toNat % 512, Nat.mod_lt _ (by decide)⟩
  | 1 => x

section Contents

variable (d : Dev nD) (i : grid0.Coords) (tab : Buf (Elt F) (tabM.view.loc (seqr d i))) (word : ℕ → BitVec 32)

/-- A slot filled with the table's row for the core's word `n`. -/
def slotVal (n : ℕ) : Buf (Elt F) (slotM.view.loc (seqr d i)) := fun p : S8x49152.Idx => tab (tabAt (word n) (p 1))

/-- The core's rows of the result, done: row `512c + n` is the table's row for the core's word `n`. -/
def resVal : Buf (Elt F) (resM.view.loc (seqr d i)) := fun p : S1024x49152.Idx => tab (tabAt (word ((p 0).val % 512)) (p 1))

/-- A copy of the table's row for word `n` into slot `t` fills the slot with it. -/
theorem slotRow_filled {t n : ℕ} (hw : (word n).toNat < 512) {off off' : Fin 2 → ℕ} (hoff : off = ![(word n).toNat, 0]) (hoff' : off' = ![t, 0]) (h) (h')
    (fd : Buf (Elt F) (slotM.view.loc (seqr d i))) :
    ∀ p ∈ slotSet t, (slotRow off' h').view.write (Elt F) fd ((tabRow off h).view.read (Elt F) tab) Finset.univ p = slotVal d i tab word n p := by
  intro p hp
  rw [← slotRow_set hoff' h'] at hp
  obtain ⟨x, -, rfl⟩ := Finset.mem_map.mp hp
  rw [View.write_emb_of_mem _ _ (Finset.mem_univ x), View.read_apply]
  simp only [cast_eq]
  refine congrArg tab (funext fun a => Fin.ext ?_)
  subst hoff hoff'
  have e0 : (x 0).val = 0 := by have : (x 0).val < 1 := (x 0).isLt; omega
  match a with
  | 0 => show (word n).toNat + 1 * (x 0).val = (word n).toNat % 512; omega
  | 1 => show 0 + 1 * (x 1).val = 0 + 1 * (x 1).val; rfl

/-- A copy of slot `t`, filled in round `j`, into the result's row of that round puts there what belongs there. -/
theorem resRow_filled {c t j : ℕ} (ht : t < 8) (hj : j < 64) {off off' : Fin 2 → ℕ} (hoff : off = ![t, 0]) (hoff' : off' = ![512 * c + 8 * j + t, 0]) (h) (h')
    (fd : Buf (Elt F) (resM.view.loc (seqr d i))) :
    ∀ p ∈ rowSet c t j (j + 1), (resRow off' h').view.write (Elt F) fd ((slotRow off h).view.read (Elt F) (slotVal d i tab word (8 * j + t))) Finset.univ p
      = resVal d i tab word p := by
  intro p hp
  rw [← resRow_set ht hj hoff' h'] at hp
  obtain ⟨x, -, rfl⟩ := Finset.mem_map.mp hp
  rw [View.write_emb_of_mem _ _ (Finset.mem_univ x), View.read_apply]
  simp only [cast_eq]
  subst hoff hoff'
  have e0 : (x 0).val = 0 := by have : (x 0).val < 1 := (x 0).isLt; omega
  have e : (512 * c + 8 * j + t + 1 * (x 0).val) % 512 = 8 * j + t := by omega
  refine congrArg tab (funext fun a => Fin.ext ?_)
  match a with
  | 0 => exact (congrArg (fun n => (word n).toNat % 512) e).symm
  | 1 => rfl

end Contents

end Cert.Proof.RowGather

end
-- ==== Proof.Steps.lean ====
/-
  What a sequencer holds between two statements, slot by slot, and the rule of each kind of statement over it: the load
  of an index word, the fact checked of it, a row's copy into a slot and the wait for it, and a slot's copy into the
  result and the wait for that. A slot is at rest, its row on the way in, in, or on the way out, in some round of the rows it
  serves; a rule names the slot and moves it from one of these to the next.
-/
module

public import proofs.«01_k».proof.Proof.Setup

@[expose] public section

noncomputable section

namespace Cert.Proof.RowGather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type}

local notation "𝕄" => MT nD τ sig (HIx 1) (Elt F) ℕ UU ℕ

/-- Where a slot stands: at rest with its rounds before `j` done; its row of round `j` on the way in, in, or on the
    way out. -/
inductive Phase where
  | free (j : ℕ)
  | gath (j : ℕ)
  | full (j : ℕ)
  | scat (j : ℕ)

variable (d : Dev nD) (i : grid0.Coords) (tab : Buf (Elt F) (tabM.view.loc (seqr d i))) (word : ℕ → BitVec 32)
  (q : PosShare TreeShare) (O : CellTallies nD τ sig (HIx 1)) (R : sProp (MT nD τ sig (HIx 1) (Elt F) ℕ UU ℕ))

/-- Slot `t`'s elements at `f`; the read share of the table that its copies borrow. -/
abbrev slotAt (t : Fin 8) (f : Buf (Elt F) (slotM.view.loc (seqr d i))) : sProp 𝕄 :=
  slotM.view.loc (seqr d i) ↦[slotSet t.val]{fullShare} f
abbrev tabShare (t : Fin 8) : sProp 𝕄 := tabM.view.loc (seqr d i) ↦[Finset.univ]{shareTokN q t.val} tab

/-- The result's rows of slot `t` in rounds `lo` to `hi - 1`, at `f`. -/
abbrev rowsAt (t : Fin 8) (lo hi : ℕ) (f : Buf (Elt F) (resM.view.loc (seqr d i))) : sProp 𝕄 :=
  resM.view.loc (seqr d i) ↦[rowSet (i 0).val t.val lo hi]{fullShare} f

/-- Slot `t`'s rows: before round `a` done, from round `b` on at anything. -/
abbrev rowsSt (t : Fin 8) (a b : ℕ) : sProp 𝕄 :=
  iprop(rowsAt d i t 0 a (resVal d i tab word) ∗ ∃ f, rowsAt d i t b 64 f)

/-- A copy under way on `sm`, crediting `N`, that will hand over `R`. -/
abbrev Due (sm : DmaSem sig) (N : ℕ) (E : sProp 𝕄) : sProp 𝕄 :=
  iprop(∃ D : sProp 𝕄, Flight countersEmb (seqr d i) (.dma sm) none N D ∗ (D -∗ E))

/-- Slot `t` in a phase. -/
def slotSt (t : Fin 8) : Phase → sProp 𝕄
  | .free j => iprop(semVal (seqr d i, SemLoc.dma (cellIn t)) 0 ∗ semVal (seqr d i, SemLoc.dma (cellOut t)) 0
      ∗ (∃ f, slotAt d i t f) ∗ tabShare d i tab q t ∗ rowsSt d i tab word t j j)
  | .gath j => iprop(Due d i (cellIn t) creditIn iprop(slotAt d i t (slotVal d i tab word (8 * j + t.val)) ∗ tabShare d i tab q t)
      ∗ semVal (seqr d i, SemLoc.dma (cellOut t)) 0 ∗ rowsSt d i tab word t j j)
  | .full j => iprop(semVal (seqr d i, SemLoc.dma (cellIn t)) 0 ∗ semVal (seqr d i, SemLoc.dma (cellOut t)) 0
      ∗ slotAt d i t (slotVal d i tab word (8 * j + t.val)) ∗ tabShare d i tab q t ∗ rowsSt d i tab word t j j)
  | .scat j => iprop(semVal (seqr d i, SemLoc.dma (cellIn t)) 0
      ∗ Due d i (cellOut t) creditOut iprop(rowsAt d i t j (j + 1) (resVal d i tab word) ∗ ∃ f, slotAt d i t f)
      ∗ tabShare d i tab q t ∗ rowsSt d i tab word t j (j + 1))

/-- The core's index words in scalar memory. -/
def wordVal : Buf (Elt F) (wordM.view.loc (seqr d i)) := fun p : S512.Idx => word (p 0).val

/-- What the statements need besides the slots: that a wait is allowed, the index words, and what the core owes; and what
    they leave alone, `R`. -/
def base : sProp 𝕄 :=
  iprop(R ∗ MayWaits (seqr d i) (none : HIx 1) O ∗ (wordM.view.loc (seqr d i) ↦[Finset.univ]{fullShare} wordVal d i word) ∗ ∃ W, owes (seqr d i) O W)

/-- The core between two statements, the slots in the phases `φ`. -/
def St (φ : Fin 8 → Phase) : sProp 𝕄 :=
  iprop(base d i word O R ∗ bigSep Finset.univ fun t => slotSt d i tab word q t (φ t))

/-- All slots but `t`. -/
def others (t : Fin 8) (φ : Fin 8 → Phase) : sProp 𝕄 := bigSep (Finset.univ.erase t) fun u => slotSt d i tab word q u (φ u)

theorem St_open {t : Fin 8} {φ : Fin 8 → Phase} {ph : Phase} (h : φ t = ph) :
    St d i tab word q O R φ ⊢ (iprop(base d i word O R ∗ slotSt d i tab word q t ph ∗ others d i tab word q t φ) : sProp 𝕄) := by
  unfold St others
  rw [SparseCore.bigSep_erase' (Finset.mem_univ t), h]

theorem St_close {t : Fin 8} {φ : Fin 8 → Phase} {ph : Phase} :
    (iprop(base d i word O R ∗ slotSt d i tab word q t ph ∗ others d i tab word q t φ) : sProp 𝕄) ⊢ St d i tab word q O R (Function.update φ t ph) := by
  unfold St others
  rw [SparseCore.bigSep_erase' (i := t) (Finset.mem_univ t), Function.update_self,
    bigSep_congr (Φ := fun u => slotSt d i tab word q u (Function.update φ t ph u)) (Ψ := fun u => slotSt d i tab word q u (φ u)) fun u hu => by rw [Function.update_of_ne (Finset.ne_of_mem_erase hu)]]

theorem creditIn_pos : 0 < creditIn := View.amount_pos (slotRow ![0, 0] (by decide)).view (.dma (cellIn 0)) (by decide)
theorem creditOut_pos : 0 < creditOut := View.amount_pos (resRow ![0, 0] (by decide)).view (.dma (cellOut 0)) (by decide)

variable [FloatOps F]

/-- The core's weakest precondition of a stretch of its body. -/
@[irreducible] def runs {α : Type} (p : Prog (TpuEff nD τ sig (Elt F) Λ₀ (.scScalar ((i 0).castLE hcore0))) α) (Q : α → sProp 𝕄) : sProp 𝕄 :=
  wp frame (wpE (defs₀ (F := F)) 𝒱₀ (seqr d i) none) Set.univ p Q

variable {d i tab word q O R} {φ : Fin 8 → Phase}

/-- The end of a stretch. -/
theorem step_ret {α : Type} {a : α} {Q : α → sProp 𝕄} (h : St d i tab word q O R φ ⊢ Q a) :
    St d i tab word q O R φ ⊢ runs d i (.ret a) Q := by
  unfold runs; rw [wp_ret]; exact h.trans fupd_intro

/-- The fact checked of an index word. -/
theorem step_assume {C : Prop} {dec : Decidable C} (hC : C) {Q : PLift C → sProp 𝕄} (h : St d i tab word q O R φ ⊢ Q ⟨hC⟩) :
    St d i tab word q O R φ ⊢ runs d i (Prog.lift (TpuEff.assume C dec)) Q :=
  (step_ret (a := PLift.up hC) h).trans (by unfold runs; exact wp_assume 𝒱₀ (seqr d i) none Set.univ hC)

/-- The load of index word `n`. -/
theorem step_load {off : Fin 1 → ℕ} {inb : ∀ a, off a + S1.size a ≤ S512.size a} {h1 : (Rect.unit (s := S512) off S1.size inb).shape.numel = 1}
    {hp : EltTy.i32.packing = 1} {n : ℕ} (hoff : off = ![n]) {Q : Elt F .i32 → sProp 𝕄} (h : St d i tab word q O R φ ⊢ Q (word n)) :
    St d i tab word q O R φ ⊢ runs d i (smemLoad wordM (Rect.unit (s := S512) off S1.size inb) h1 hp) Q := by
  subst hoff
  unfold runs St base smemLoad
  iintro ⟨⟨HX, #Hmw, Hw, HO⟩, Hs⟩
  iapply (wp_smemLoadElt_named 𝒱₀ (seqr d i) none Set.univ (m := wordM) (S := Finset.univ)) $$ Hw
  iintro Hw %w %hw
  have e : w = word n := by
    rw [hw]; unfold Memref.access; rw [View.read_apply]
    show wordVal d i word _ = _
    unfold wordVal
    exact congrArg word (show n + 1 * 0 = n by omega)
  subst e
  rw [wp_ret]; imodintro
  iapply h
  unfold St base
  isplitl [HX Hw HO]
  · isplitl [HX]; · iexact HX
    isplitr; · iexact Hmw
    isplitl [Hw] <;> iassumption
  iexact Hs

/-- A row's copy into its slot is issued. -/
theorem step_gather {t j n : ℕ} {off off' : Fin 2 → ℕ} {inb inb'} (hoff' : off' = ![t, 0]) (hoff : off = ![(word n).toNat, 0]) (ht : t < 8)
    {sem : DmaSem sig} (hsem : sem = cellIn ⟨t, ht⟩) (hφ : φ ⟨t, ht⟩ = .free j) (hn : n = 8 * j + t) (hw : (word n).toNat < 512) {hs hd hy}
    {Q : PUnit → sProp 𝕄} (h : St d i tab word q O R (Function.update φ ⟨t, ht⟩ (.gath j)) ⊢ Q ⟨⟩) :
    St d i tab word q O R φ ⊢ runs d i (Prog.lift (.enqueueDma (tabRow off inb) (.here (slotRow off' inb')) (.dma sem) hs hd hy)) Q := by
  subst hsem hn
  refine (St_open d i tab word q O R hφ).trans ?_
  unfold runs slotSt
  iintro ⟨Hb, ⟨Hi, Ho, ⟨%f, Hs⟩, Ht, Hr⟩, Hrest⟩
  ihave Ht' := (pointsTo_split_subset (Finset.subset_univ (tabRow off inb).view.set)).1 $$ Ht
  icases Ht' with ⟨Ht, Htr⟩
  iapply (wp_dmaLocal countersEmb 𝒱₀ (seqr d i) none none creditIn rfl creditIn_pos
    (Finset.Subset.refl _)) $$ [Hs Ht Hi]
  · isplitl [Ht]; · iexact Ht
    isplitl [Hs]
    · rw [slotRow_set hoff' inb']; iexact Hs
    iexact Hi
  iintro HF
  rw [wp_ret]; imodintro
  iapply h
  iapply (St_close d i tab word q O R)
  isplitl [Hb]; · iexact Hb
  isplitr [Hrest]
  · unfold slotSt
    isplitl [HF Htr]
    · iexists _
      isplitl [HF]; · iexact HF
      iintro ⟨Hs, Ht⟩
      isplitl [Hs]
      · iapply (Entails.of_eq (pointsTo_congr (slotRow_filled d i tab word hw hoff hoff' inb inb' f)))
        rw [slotRow_set hoff' inb']; iexact Hs
      · iapply (pointsTo_split_subset (Finset.subset_univ (tabRow off inb).view.set)).2
        isplitl [Ht] <;> iassumption
    isplitl [Ho] <;> iassumption
  iexact Hrest

/-- The wait for a row's copy into its slot. -/
theorem step_waitIn {t j : ℕ} {off off' : Fin 2 → ℕ} {inb inb'} (hoff' : off' = ![t, 0]) (ht : t < 8)
    {sem : DmaSem sig} (hsem : sem = cellIn ⟨t, ht⟩) (hφ : φ ⟨t, ht⟩ = .gath j) {hs hd}
    {Q : PUnit → sProp 𝕄} (h : St d i tab word q O R (Function.update φ ⟨t, ht⟩ (.full j)) ⊢ Q ⟨⟩) :
    St d i tab word q O R φ ⊢ runs d i (Prog.lift (.waitDma2 sem (tabRow off inb) (slotRow off' inb') hs hd)) Q := by
  subst hsem
  refine (St_open d i tab word q O R hφ).trans ?_
  unfold runs slotSt base
  iintro ⟨⟨HX, #Hmw, Hw, %W, HO⟩, ⟨⟨%E, HF, HE⟩, Ho, Hr⟩, Hrest⟩
  ihave Hm := (MayWaits.elim (.dma (cellIn ⟨t, ht⟩))) $$ Hmw
  iapply (wp_waitLocalO countersEmb 𝒱₀ (seqr d i) none none (N := creditIn) (srcw := tabRow off inb) (dstw := slotRow off' inb')
    (hsrc := hs) (hdst := hd) rfl) $$ [HF HO Hm]
  · isplitl [HF]; · iexact HF
    isplitl [HO] <;> iassumption
  iintro ⟨HD, Hi, HO⟩
  rw [wp_ret]; imodintro
  ihave HE' := HE $$ HD
  icases HE' with ⟨Hs, Ht⟩
  iapply h
  iapply (St_close d i tab word q O R)
  isplitl [HX Hw HO]
  · unfold base
    isplitl [HX]; · iexact HX
    isplitr; · iexact Hmw
    isplitl [Hw]; · iexact Hw
    iexists _; iexact HO
  isplitr [Hrest]
  · unfold slotSt
    isplitl [Hi]; · iexact Hi
    isplitl [Ho]; · iexact Ho
    isplitl [Hs]; · iexact Hs
    isplitl [Ht] <;> iassumption
  iexact Hrest

/-- A full slot's copy into the result is issued. -/
theorem step_scatter {t j r : ℕ} {off off' : Fin 2 → ℕ} {inb inb'} (hoff : off = ![t, 0]) (hoff' : off' = ![r, 0]) (ht : t < 8)
    {sem : DmaSem sig} (hsem : sem = cellOut ⟨t, ht⟩) (hφ : φ ⟨t, ht⟩ = .full j) (hj : j < 64) (hr : r = 512 * (i 0).val + 8 * j + t) {hs hd hy}
    {Q : PUnit → sProp 𝕄} (h : St d i tab word q O R (Function.update φ ⟨t, ht⟩ (.scat j)) ⊢ Q ⟨⟩) :
    St d i tab word q O R φ ⊢ runs d i (Prog.lift (.enqueueDma (slotRow off inb) (.here (resRow off' inb')) (.dma sem) hs hd hy)) Q := by
  subst hsem hr
  refine (St_open d i tab word q O R hφ).trans ?_
  unfold runs slotSt
  iintro ⟨Hb, ⟨Hi, Ho, Hs, Ht, Hdone, %f, Hrows⟩, Hrest⟩
  ihave Hrows' := (Entails.of_eq (congrArg (fun I => resM.view.loc (seqr d i) ↦[I]{fullShare} f)
    (rowSet_union (c := (i 0).val) (t := t) (Nat.le_succ j) hj).symm)) $$ Hrows
  ihave Hrows'' := (pointsTo_union rowSet_disjoint).1 $$ Hrows'
  icases Hrows'' with ⟨Hrow, Hrows⟩
  iapply (wp_dmaLocal countersEmb 𝒱₀ (seqr d i) none none creditOut rfl creditOut_pos (Finset.Subset.refl _)) $$ [Hs Hrow Ho]
  · isplitl [Hs]
    · rw [slotRow_set hoff inb]; iexact Hs
    isplitl [Hrow]
    · rw [resRow_set ht hj hoff' inb']; iexact Hrow
    iexact Ho
  iintro HF
  rw [wp_ret]; imodintro
  iapply h
  iapply (St_close d i tab word q O R)
  isplitl [Hb]; · iexact Hb
  isplitr [Hrest]
  · unfold slotSt
    isplitl [Hi]; · iexact Hi
    isplitl [HF]
    · iexists _
      isplitl [HF]; · iexact HF
      iintro ⟨Hrow, Hs⟩
      isplitl [Hrow]
      · iapply (Entails.of_eq (pointsTo_congr (resRow_filled d i tab word ht hj hoff hoff' inb inb' f)))
        rw [resRow_set ht hj hoff' inb']; iexact Hrow
      · iexists _
        rw [slotRow_set hoff inb]; iexact Hs
    isplitl [Ht]; · iexact Ht
    isplitl [Hdone]; · iexact Hdone
    iexists _; iexact Hrows
  iexact Hrest

/-- The wait for a slot's copy into the result. -/
theorem step_waitOut {t j : ℕ} {off off' : Fin 2 → ℕ} {inb inb'} (hoff : off = ![t, 0]) (ht : t < 8)
    {sem : DmaSem sig} (hsem : sem = cellOut ⟨t, ht⟩) (hφ : φ ⟨t, ht⟩ = .scat j) {hs hd}
    {Q : PUnit → sProp 𝕄} (h : St d i tab word q O R (Function.update φ ⟨t, ht⟩ (.free (j + 1))) ⊢ Q ⟨⟩) :
    St d i tab word q O R φ ⊢ runs d i (Prog.lift (.waitDma2 sem (slotRow off inb) (resRow off' inb') hs hd)) Q := by
  subst hsem
  refine (St_open d i tab word q O R hφ).trans ?_
  unfold runs slotSt base
  iintro ⟨⟨HX, #Hmw, Hw, %W, HO⟩, ⟨Hi, ⟨%E, HF, HE⟩, Ht, Hdone, Hrows⟩, Hrest⟩
  ihave Hm := (MayWaits.elim (.dma (cellOut ⟨t, ht⟩))) $$ Hmw
  iapply (wp_waitLocalO countersEmb 𝒱₀ (seqr d i) none none (N := creditOut) (srcw := slotRow off inb) (dstw := resRow off' inb')
    (hsrc := hs) (hdst := hd) rfl) $$ [HF HO Hm]
  · isplitl [HF]; · iexact HF
    isplitl [HO] <;> iassumption
  iintro ⟨HD, Ho, HO⟩
  rw [wp_ret]; imodintro
  ihave HE' := HE $$ HD
  icases HE' with ⟨Hrow, Hs⟩
  iapply h
  iapply (St_close d i tab word q O R)
  isplitl [HX Hw HO]
  · unfold base
    isplitl [HX]; · iexact HX
    isplitr; · iexact Hmw
    isplitl [Hw]; · iexact Hw
    iexists _; iexact HO
  isplitr [Hrest]
  · unfold slotSt
    isplitl [Hi]; · iexact Hi
    isplitl [Ho]; · iexact Ho
    isplitl [Hs]; · iexact Hs
    isplitl [Ht]; · iexact Ht
    isplitl [Hdone Hrow]
    · iapply (Entails.of_eq (congrArg (fun I => resM.view.loc (seqr d i) ↦[I]{fullShare} resVal d i tab word)
        (rowSet_union (c := (i 0).val) (t := t) (Nat.zero_le j) (Nat.le_succ j))))
      iapply (pointsTo_union rowSet_disjoint).2
      isplitl [Hdone] <;> iassumption
    iexact Hrows
  iexact Hrest

/-! ## The index words -/

/-- Where the core's index word `n` lies among all the index words, and the word. -/
def wordAt (i : grid0.Coords) (n : ℕ) : S1024.Idx := fun
  | 0 => ⟨512 * (i 0).val + n % 512, show 512 * (i 0).val + n % 512 < 1024 by have : (i 0).val < 2 := (i 0).isLt; omega⟩
def wordOf (idx : Buf (Elt F) (idxM.view.loc (seqr d i))) (n : ℕ) : BitVec 32 := idx (wordAt i n)

/-- The cell of the index words' copy. -/
abbrev cellWords : DmaSem sig := ⟨16, by decide⟩

/-- What the index words' copy credits its cell. -/
abbrev creditWords : ℕ := (wordM).view.dmaCredit

/-- Before the body: as between two statements, the index words not yet there. -/
def Start (idx : Buf (Elt F) (idxM.view.loc (seqr d i))) (qi : PosShare TreeShare) (φ : Fin 8 → Phase) : sProp 𝕄 :=
  iprop(R ∗ MayWaits (seqr d i) (none : HIx 1) O ∗ (idxM.view.loc (seqr d i) ↦[Finset.univ]{qi} idx)
    ∗ (∃ f, wordM.view.loc (seqr d i) ↦[Finset.univ]{fullShare} f) ∗ semVal (seqr d i, SemLoc.dma cellWords) 0 ∗ (∃ W, owes (seqr d i) O W)
    ∗ bigSep Finset.univ fun t => slotSt d i tab (wordOf idx) q t (φ t))

/-- While the index words are on their way. -/
def Fetching (idx : Buf (Elt F) (idxM.view.loc (seqr d i))) (qi : PosShare TreeShare) (φ : Fin 8 → Phase) : sProp 𝕄 :=
  iprop(R ∗ MayWaits (seqr d i) (none : HIx 1) O
    ∗ Due d i cellWords creditWords iprop((wordM.view.loc (seqr d i) ↦[Finset.univ]{fullShare} wordVal d i (wordOf idx))
        ∗ idxM.view.loc (seqr d i) ↦[Finset.univ]{qi} idx)
    ∗ (∃ W, owes (seqr d i) O W) ∗ bigSep Finset.univ fun t => slotSt d i tab (wordOf idx) q t (φ t))

/-- What the statements after the copy of the index words leave alone: the index words' array, the copy's cell. -/
def aside (idx : Buf (Elt F) (idxM.view.loc (seqr d i))) (qi : PosShare TreeShare) : sProp 𝕄 :=
  iprop(R ∗ (idxM.view.loc (seqr d i) ↦[Finset.univ]{qi} idx) ∗ semVal (seqr d i, SemLoc.dma cellWords) 0)

/-- The core's part of all the index words. -/
abbrev idxPart (off : Fin 1 → ℕ) (inb : ∀ a, off a + S512.size a ≤ S1024.size a) : Memref sig .scScalar .hbm S512 .i32 :=
  idxM.slice (Rect.unit (s := S1024) off S512.size inb) (fun _ => rfl)

/-- Copied into scalar memory it is the core's words. -/
theorem words_filled {idx : Buf (Elt F) (idxM.view.loc (seqr d i))} {off : Fin 1 → ℕ} {inb : ∀ a, off a + S512.size a ≤ S1024.size a}
    (hoff : off = ![512 * (i 0).val]) (f : Buf (Elt F) (wordM.view.loc (seqr d i))) :
    ∀ p ∈ Finset.univ, wordM.view.write (Elt F) f ((idxPart off inb).view.read (Elt F) idx) Finset.univ p = wordVal d i (wordOf idx) p := by
  intro p _
  refine (View.write_emb_of_mem (v := wordM.view) _ _ (Finset.mem_univ p)).trans ?_
  simp only [cast_eq]
  subst hoff
  show idx ((idxPart ![512 * (i 0).val] inb).view.emb p) = idx (wordAt i (p 0).val)
  refine congrArg idx (funext fun a => Fin.ext ?_)
  have hp : (p 0).val < 512 := (p 0).isLt
  match a with
  | 0 => show 512 * (i 0).val + 1 * (p 0).val = 512 * (i 0).val + (p 0).val % 512; omega

/-- The index words' copy is issued. -/
theorem step_fetch {idx : Buf (Elt F) (idxM.view.loc (seqr d i))} {qi : PosShare TreeShare} {sem : DmaSem sig} (hsem : sem = cellWords)
    {off : Fin 1 → ℕ} {inb : ∀ a, off a + S512.size a ≤ S1024.size a} (hoff : off = ![512 * (i 0).val]) {hs hd hy}
    {Q : PUnit → sProp 𝕄} (h : Fetching (R := R) (tab := tab) (q := q) (O := O) idx qi φ ⊢ Q ⟨⟩) :
    Start (R := R) (tab := tab) (q := q) (O := O) idx qi φ ⊢
      runs d i (Prog.lift (.enqueueDma (idxPart off inb) (.here wordM) (.dma sem) hs hd hy)) Q := by
  subst hsem
  unfold runs Start
  iintro ⟨HX, #Hmw, Hix, ⟨%f, Hw⟩, Hc, HO, Hs⟩
  ihave Hix' := (pointsTo_split_subset (Finset.subset_univ (idxPart off inb).view.set)).1 $$ Hix
  icases Hix' with ⟨Hix, Hixr⟩
  iapply (wp_dmaLocal countersEmb 𝒱₀ (seqr d i) none none creditWords rfl (View.amount_pos wordM.view (.dma cellWords) (by decide))
    (Finset.subset_univ _)) $$ [Hix Hw Hc]
  · isplitl [Hix]; · iexact Hix
    isplitl [Hw]; · iexact Hw
    iexact Hc
  iintro HF
  rw [wp_ret]; imodintro
  iapply h
  unfold Fetching
  isplitl [HX]; · iexact HX
  isplitr; · iexact Hmw
  isplitl [HF Hixr]
  · iexists _
    isplitl [HF]; · iexact HF
    iintro ⟨Hw, Hix⟩
    isplitl [Hw]
    · iapply (Entails.of_eq (pointsTo_congr (words_filled hoff f))) $$ Hw
    · iapply (pointsTo_split_subset (Finset.subset_univ (idxPart off inb).view.set)).2
      isplitl [Hix] <;> iassumption
  isplitl [HO] <;> iassumption

/-- The wait for it. -/
theorem step_fetched {idx : Buf (Elt F) (idxM.view.loc (seqr d i))} {qi : PosShare TreeShare} {sem : DmaSem sig} (hsem : sem = cellWords)
    {off : Fin 1 → ℕ} {inb : ∀ a, off a + S512.size a ≤ S1024.size a} {hs hd}
    {Q : PUnit → sProp 𝕄} (h : St d i tab (wordOf idx) q O (aside (R := R) idx qi) φ ⊢ Q ⟨⟩) :
    Fetching (R := R) (tab := tab) (q := q) (O := O) idx qi φ ⊢ runs d i (Prog.lift (.waitDma2 sem (idxPart off inb) wordM hs hd)) Q := by
  subst hsem
  unfold runs Fetching
  iintro ⟨HX, #Hmw, ⟨%E, HF, HE⟩, ⟨%W, HO⟩, Hs⟩
  ihave Hm := (MayWaits.elim (.dma cellWords)) $$ Hmw
  iapply (wp_waitLocalO countersEmb 𝒱₀ (seqr d i) none none (N := creditWords) (srcw := idxPart off inb) (dstw := wordM)
    (hsrc := hs) (hdst := hd) rfl) $$ [HF HO Hm]
  · isplitl [HF]; · iexact HF
    isplitl [HO] <;> iassumption
  iintro ⟨HD, Hc, HO⟩
  rw [wp_ret]; imodintro
  ihave HE' := HE $$ HD
  icases HE' with ⟨Hw, Hix⟩
  iapply h
  unfold St base aside
  isplitr [Hs]
  · isplitl [HX Hix Hc]
    · isplitl [HX]; · iexact HX
      isplitl [Hix] <;> iassumption
    isplitr; · iexact Hmw
    isplitl [Hw]; · iexact Hw
    iexists _; iexact HO
  iexact Hs

end Cert.Proof.RowGather

end
-- ==== Proof.Body.lean ====
/-
  The body of the kernel on one sequencer, run statement by statement over the slots' phases: the index words' copy, the
  first eight rows in and on their way out, the 63 rounds of the loop, each with every slot on its way out before it and
  after it, and the last waits, after which every slot is at rest with all of its rows done.
-/
module

public import proofs.«01_k».proof.Proof.Steps

@[expose] public section

noncomputable section

namespace Cert.Proof.RowGather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

variable {d : Dev nD} {i : grid0.Coords} {tab : Buf (Elt F) (tabM.view.loc (seqr d i))} {word : ℕ → BitVec 32}
  {q : PosShare TreeShare} {O : CellTallies nD τ sig (HIx 1)} {R : sProp (MT nD τ sig (HIx 1) (Elt F) ℕ UU ℕ)} {φ : Fin 8 → Phase}

/-- A stretch followed by the rest. -/
theorem step_bind {α β : Type} {p : Prog (TpuEff nD τ sig (Elt F) Λ₀ (.scScalar ((i 0).castLE hcore0))) α}
    {k : α → Prog (TpuEff nD τ sig (Elt F) Λ₀ (.scScalar ((i 0).castLE hcore0))) β} {Q : β → sProp 𝕄} {E : sProp 𝕄}
    (h : E ⊢ runs d i p fun a => runs d i (k a) Q) : E ⊢ runs d i (p >>= k) Q := by
  unfold runs at h ⊢; rw [wp_bind]; exact h

/-- A table row named by a word below 512 lies in the table. -/
theorem row_inb {w : BitVec 32} (h : w.toNat < 512) : ∀ a, (![w.toNat, 0] : Fin 2 → ℕ) a + S1x49152.size a ≤ S512x49152.size a := by
  intro a
  match a with
  | 0 => show w.toNat + 1 ≤ 512; omega
  | 1 => show 0 + 49152 ≤ 49152; omega

/-- A loop, by the slots' phases before each of its rounds. -/
theorem step_loop {l : Scf.Loop 32} {hok : l.OK} {init : PUnit}
    {body : Fin l.trips → PUnit → Prog (TpuEff nD τ sig (Elt F) Λ₀ (.scScalar ((i 0).castLE hcore0))) PUnit} (J : ℕ → Fin 8 → Phase) (h₀ : φ = J 0)
    (hbody : ∀ (k : Fin l.trips) (a : PUnit), St d i tab word q O R (J k.val) ⊢ runs d i (body k a) fun _ => St d i tab word q O R (J (k.val + 1)))
    {Q : PUnit → sProp (MT nD τ sig (HIx 1) (Elt F) ℕ UU ℕ)} (h : St d i tab word q O R (J l.trips) ⊢ Q ⟨⟩) :
    St d i tab word q O R φ ⊢ runs d i (Scf.Loop.for l hok init body) Q := by
  subst h₀
  unfold runs at hbody ⊢
  iintro H
  iapply (Scf.wp_for frame (wpE (defs₀ (F := F)) 𝒱₀ (seqr d i) none) Set.univ l.lb l.ub l.st hok init body (fun k _ => St d i tab word q O R (J k)) hbody)
  isplitl [H]; · iexact H
  iintro %a H
  iapply h
  iexact H

/-- The phases as the statements leave them, written out. -/
theorem St_congr {φ' : Fin 8 → Phase} (h : ∀ t, φ t = φ' t) : St d i tab word q O R φ ⊢ St d i tab word q O R φ' := by
  rw [funext h]

variable {idx : Buf (Elt F) (idxM.view.loc (seqr d i))} {qi : PosShare TreeShare}

/-- The body: from every slot at rest with nothing done, to every slot at rest with its 64 rows done. -/
theorem run_body (hI : ∀ n, (wordOf idx n).toNat < 512) :
    Start (R := R) (tab := tab) (q := q) (O := O) idx qi (fun _ => .free 0) ⊢ runs d i (cc0_k i tabM (Memref.isWhole_whole _) idxM (Memref.isWhole_whole _) resM (Memref.isWhole_whole _)
      wordM (Memref.isWhole_whole _) slotM (Memref.isWhole_whole _) cc0_scratch2 cc0_scratch3 cc0_scratch4 cc0_scratch5 cc0_scratch6 cc0_scratch7 cc0_scratch8
      cc0_scratch9 cc0_scratch10 cc0_scratch11 cc0_scratch12 cc0_scratch13 cc0_scratch14 cc0_scratch15 cc0_scratch16 cc0_scratch17 cc0_scoped0)
        fun _ => St d i tab (wordOf idx) q O (aside (R := R) idx qi) (fun _ => .free 64) := by
  refine step_bind (F := F) (step_bind (F := F) (step_fetch (F := F) (by exact rfl) (by first | (with_reducible exact rfl) | exact ClosedOff.eq) (step_bind (F := F) (step_fetched (F := F) (by exact rfl) ?_))))
  repeat first
    | refine step_bind (F := F) ?_
    | refine step_waitOut (F := F) (by exact rfl) (by decide) (by exact rfl) (by exact rfl) ?_
    | refine step_waitIn (F := F) (by exact rfl) (by decide) (by exact rfl) (by exact rfl) ?_
    | refine step_load (F := F) (by first | (with_reducible exact rfl) | exact ClosedOff.eq) ?_
    | refine step_assume (F := F) (row_inb (hI _)) ?_
    | refine step_gather (F := F) (by exact rfl) (by exact rfl) (by decide) (by exact rfl) (by exact rfl) (by omega) (hI _) ?_
    | refine step_scatter (F := F) (by exact rfl) (by first | (with_reducible exact rfl) | exact ClosedOff.eq) (by decide) (by exact rfl) (by exact rfl) (by omega) (by omega) ?_
    | refine step_ret (F := F) ?_
  refine step_loop (F := F) (fun k _ => .scat k) (by funext t; fin_cases t <;> rfl) ?_ ?_
  · intro k a
    have hk : k.val < 63 := k.isLt
    repeat first
      | refine step_bind (F := F) ?_
      | refine step_waitOut (F := F) (by exact rfl) (by decide) (by exact rfl) (by exact rfl) ?_
      | refine step_waitIn (F := F) (by exact rfl) (by decide) (by exact rfl) (by exact rfl) ?_
      | refine step_load (F := F) (by first | (with_reducible exact rfl) | exact ClosedOff.eq) ?_
      | refine step_assume (F := F) (row_inb (hI _)) ?_
      | refine step_gather (F := F) (by exact rfl) (by exact rfl) (by decide) (by exact rfl) (by exact rfl) (by omega) (hI _) ?_
      | refine step_scatter (F := F) (by exact rfl) (by first | (with_reducible exact rfl) | exact ClosedOff.eq) (by decide) (by exact rfl) (by exact rfl) (by omega) (by omega) ?_
      | refine step_ret (F := F) ?_
    exact St_congr (by intro t; fin_cases t <;> rfl)
  repeat first
    | refine step_bind (F := F) ?_
    | refine step_waitOut (F := F) (by exact rfl) (by decide) (by exact rfl) (by exact rfl) ?_
    | refine step_waitIn (F := F) (by exact rfl) (by decide) (by exact rfl) (by exact rfl) ?_
    | refine step_load (F := F) (by first | (with_reducible exact rfl) | exact ClosedOff.eq) ?_
    | refine step_assume (F := F) (row_inb (hI _)) ?_
    | refine step_gather (F := F) (by exact rfl) (by exact rfl) (by decide) (by exact rfl) (by exact rfl) (by omega) (hI _) ?_
    | refine step_scatter (F := F) (by exact rfl) (by first | (with_reducible exact rfl) | exact ClosedOff.eq) (by decide) (by exact rfl) (by exact rfl) (by omega) (by omega) ?_
    | refine step_ret (F := F) ?_
  exact St_congr (by intro t; fin_cases t <;> rfl)

end Cert.Proof.RowGather

end
-- ==== Proof.Core.lean ====
/-
  One SparseCore's part of the call: its sequencer's scratch and DMA cells, and the arrays it is handed, as the
  slots at rest with nothing done; the body; and the slots at rest with everything done, handed back.
-/
module

public import proofs.«01_k».proof.Proof.Body

@[expose] public section

noncomputable section

namespace Cert.Proof.RowGather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.SparseCore.Cfg (ownBufs ownSems0 ownCells ownRefs mem_ownCells mem_ownRefs)

variable {F : FTy → Type}

local notation "𝕄" => MT nD τ sig (HIx 1) (Elt F) ℕ UU ℕ

/-! ## The rows by slot, the slots of the shared memory -/

/-- The result rows of SparseCore `c`. -/
def coreRows (c : ℕ) : Finset S1024x49152.Idx := Finset.univ.filter fun p => (p 0).val / 512 = c

theorem mem_coreRows {c : ℕ} {p : S1024x49152.Idx} : p ∈ coreRows c ↔ (p 0).val / 512 = c := by simp [coreRows]

theorem rows_apart (c : ℕ) (t t' : Fin 8) (h : t ≠ t') : Disjoint (rowSet c t.val 0 64) (rowSet c t'.val 0 64) := by
  rw [Finset.disjoint_left]; intro p hp hp'
  rw [mem_rowSet] at hp hp'
  exact h (Fin.ext (hp.2.1.symm.trans hp'.2.1))

theorem rows_cover (c : ℕ) : Finset.univ.biUnion (fun t : Fin 8 => rowSet c t.val 0 64) = coreRows c := by
  ext p
  simp only [Finset.mem_biUnion, Finset.mem_univ, true_and, mem_rowSet, mem_coreRows]
  constructor
  · rintro ⟨t, h, -⟩; exact h
  · intro h
    exact ⟨⟨(p 0).val % 8, Nat.mod_lt _ (by decide)⟩, h, rfl, Nat.zero_le _, by omega⟩

theorem slots_apart (t t' : Fin 8) (h : t ≠ t') : Disjoint (slotSet t.val) (slotSet t'.val) := by
  rw [Finset.disjoint_left]; intro p hp hp'
  rw [mem_slotSet] at hp hp'
  exact h (Fin.ext (hp.symm.trans hp'))

theorem slots_cover : Finset.univ.biUnion (fun t : Fin 8 => slotSet t.val) = Finset.univ := by
  ext p
  simp only [Finset.mem_biUnion, Finset.mem_univ, true_and, mem_slotSet, iff_true]
  exact ⟨⟨(p 0).val, (p 0).isLt⟩, rfl⟩

/-! ## All slots at rest -/

variable (d : Dev nD) (i : grid0.Coords) (tab : Buf (Elt F) (tabM.view.loc (seqr d i))) (word : ℕ → BitVec 32) (q : PosShare TreeShare)

/-- The slots' DMA cells, all at zero. -/
abbrev slotCells : sProp 𝕄 :=
  iprop((bigSep Finset.univ fun t => semVal (seqr d i, SemLoc.dma (cellIn t)) 0) ∗ bigSep Finset.univ fun t => semVal (seqr d i, SemLoc.dma (cellOut t)) 0)

/-- All slots at rest, thing by thing. -/
theorem rest_eq (j : ℕ) : (bigSep Finset.univ fun t => slotSt d i tab word q t (.free j) : sProp 𝕄)
    = iprop((bigSep Finset.univ fun t => semVal (seqr d i, SemLoc.dma (cellIn t)) 0) ∗ (bigSep Finset.univ fun t => semVal (seqr d i, SemLoc.dma (cellOut t)) 0)
      ∗ (bigSep Finset.univ fun t => iprop(∃ f, slotAt d i t f)) ∗ (bigSep Finset.univ fun t => tabShare d i tab q t)
      ∗ (bigSep Finset.univ fun t => rowsAt d i t 0 j (resVal d i tab word)) ∗ bigSep Finset.univ fun t => iprop(∃ f, rowsAt d i t j 64 f)) := by
  simp only [slotSt, bigSep_sep']

/-- Before the first round no row is done. -/
theorem none_done : (bigSep Finset.univ fun t : Fin 8 => rowsAt d i t 0 0 (resVal d i tab word) : sProp 𝕄) = iprop(emp) := by
  refine (bigSep_congr fun t _ => ?_).trans (bigSep_emp_const (M := MT nD τ sig (HIx 1) (Elt F) ℕ UU ℕ) Finset.univ)
  rw [rowsAt, rowSet_empty]
  exact pointsTo_empty

/-- At the start: the cells, the shared memory, a read share of the table and the core's rows of the result. -/
theorem rest_in (f : Buf (Elt F) (slotM.view.loc (seqr d i))) (g : Buf (Elt F) (resM.view.loc (seqr d i))) :
    iprop(slotCells d i ∗ (slotM.view.loc (seqr d i) ↦[Finset.univ]{fullShare} f) ∗ (tabM.view.loc (seqr d i) ↦[Finset.univ]{q} tab)
        ∗ resM.view.loc (seqr d i) ↦[coreRows (i 0).val]{fullShare} g)
      ⊢ (iprop((tabM.view.loc (seqr d i) ↦[Finset.univ]{shareDrop q 8} tab) ∗ bigSep Finset.univ fun t => slotSt d i tab word q t (.free 0)) : sProp 𝕄) := by
  rw [rest_eq]
  iintro ⟨⟨Hi, Ho⟩, Hs, Ht, Hr⟩
  ihave Ht' := (pointsTo_toks_split q 8) $$ Ht
  icases Ht' with ⟨Hd, Ht⟩
  ihave Hs' := (Entails.of_eq (Ring.pointsTo_blocks (fun t : Fin 8 => slotSet t.val) slots_apart slots_cover f)) $$ Hs
  ihave Hr' := (Entails.of_eq (Ring.pointsTo_sub_blocks (fun t : Fin 8 => rowSet (i 0).val t.val 0 64) (rows_apart _) _ (rows_cover _) g)) $$ Hr
  isplitl [Hd]; · iexact Hd
  isplitl [Hi]; · iexact Hi
  isplitl [Ho]; · iexact Ho
  isplitl [Hs']
  · iapply (SparseCore.ent <| bigSep_mono (s := Finset.univ) (Φ := fun t : Fin 8 => slotAt d i t f) (Ψ := fun t => iprop(∃ f, slotAt d i t f)) fun t _ => exists_intro (Φ := fun f => slotAt d i t f) f) $$ Hs'
  isplitl [Ht]; · iexact Ht
  isplitr
  · rw [none_done]; iempintro
  iapply (SparseCore.ent <| bigSep_mono (s := Finset.univ) (Φ := fun t : Fin 8 => rowsAt d i t 0 64 g) (Ψ := fun t => iprop(∃ f, rowsAt d i t 0 64 f)) fun t _ => exists_intro (Φ := fun f => rowsAt d i t 0 64 f) g) $$ Hr'

/-- At the end: the same, the rows done. -/
theorem rest_out :
    iprop((tabM.view.loc (seqr d i) ↦[Finset.univ]{shareDrop q 8} tab) ∗ bigSep Finset.univ fun t => slotSt d i tab word q t (.free 64))
      ⊢ (iprop(slotCells d i ∗ (∃ f, slotM.view.loc (seqr d i) ↦[Finset.univ]{fullShare} f) ∗ (tabM.view.loc (seqr d i) ↦[Finset.univ]{q} tab)
        ∗ resM.view.loc (seqr d i) ↦[coreRows (i 0).val]{fullShare} resVal d i tab word) : sProp 𝕄) := by
  rw [rest_eq]
  iintro ⟨Hd, Hi, Ho, Hs, Ht, Hr, -⟩
  ihave Ht' := (pointsTo_toks_join q 8) $$ [Hd Ht]
  · isplitl [Hd] <;> iassumption
  ihave Hs' := (Ring.pointsTo_blocks_join_exists (fun t : Fin 8 => slotSet t.val) slots_apart slots_cover (slotVal d i tab word 0)) $$ Hs
  ihave Hr' := (Entails.of_eq (Ring.pointsTo_sub_blocks (fun t : Fin 8 => rowSet (i 0).val t.val 0 64) (rows_apart _) _ (rows_cover _) (resVal d i tab word)).symm) $$ Hr
  isplitl [Hi Ho]; · isplitl [Hi] <;> iassumption
  isplitl [Hs']; · iexact Hs'
  isplitl [Ht'] <;> iassumption

/-! ## The sequencer's own memory and cells -/

/-- The sequencer's scratch: its index words and the shared memory, and the rest. -/
theorem ownBufs_seqr : (ownBufs (seqr d i) : sProp 𝕄)
    = iprop((∃ f, wordM.view.loc (seqr d i) ↦[Finset.univ]{fullShare} f) ∗ (∃ f, slotM.view.loc (seqr d i) ↦[Finset.univ]{fullShare} f)
        ∗ bigSep (((ownRefs (τ := τ) (.scScalar ((i 0).castLE hcore0))).erase ((Proc.scScalar ((i 0).castLE hcore0)).devRef cc0_scratch0)).erase
            ((Proc.scScalar ((i 0).castLE hcore0)).devRef cc0_scratch1)) fun b => iprop(∃ f, ((d, b) : Loc nD τ sig) ↦{fullShare} f)) := by
  unfold SparseCore.Cfg.ownBufs
  rw [SparseCore.bigSep_erase' ((mem_ownRefs (p := Proc.scScalar ((i 0).castLE hcore0)) (b := (Proc.scScalar ((i 0).castLE hcore0)).devRef cc0_scratch0)).mpr rfl),
    SparseCore.bigSep_erase' (Finset.mem_erase.mpr ⟨fun e => Table.noConfusion (congrArg DevRef.table e),
      (mem_ownRefs (p := Proc.scScalar ((i 0).castLE hcore0)) (b := (Proc.scScalar ((i 0).castLE hcore0)).devRef cc0_scratch1)).mpr rfl⟩)]

/-- The kernel's 17 cells on a thread: the slots' ways in and out, and the index words'. -/
def cellOf : Fin 8 ⊕ Fin 8 ⊕ Unit → GSem nD τ sig
  | .inl t => (seqr d i, .dma (cellIn t))
  | .inr (.inl t) => (seqr d i, .dma (cellOut t))
  | .inr (.inr _) => (seqr d i, .dma cellWords)

theorem cellOf_inj : Function.Injective (cellOf d i) := by
  have key : ∀ a b : DmaSem sig, ((seqr d i, SemLoc.dma a) : GSem nD τ sig) = (seqr d i, .dma b) → a.val = b.val := by
    intro a b h
    have := congrArg (fun g : GSem nD τ sig => g.2) h
    simp only [SemLoc.dma.injEq] at this; exact congrArg Fin.val this
  rintro (a | a | a) (b | b | b) h <;> replace h := key _ _ h
  · exact congrArg Sum.inl (Fin.ext h)
  · exact absurd h (by show a.val ≠ 8 + b.val; omega)
  · exact absurd h (by show a.val ≠ 16; omega)
  · exact absurd h (by show 8 + a.val ≠ b.val; omega)
  · exact congrArg (Sum.inr ∘ Sum.inl) (Fin.ext (by change 8 + a.val = 8 + b.val at h; omega))
  · exact absurd h (by show 8 + a.val ≠ 16; omega)
  · exact absurd h (by show 16 ≠ b.val; omega)
  · exact absurd h (by show 16 ≠ 8 + b.val; omega)
  · rfl

theorem cellOf_mem (k) : cellOf d i k ∈ ownCells (seqr d i) := by
  have h : ∀ s : DmaSem sig, (SemLoc.dma s : SemLoc sig).isScoped .scScalar = true := by decide
  match k with
  | .inl _ => exact mem_ownCells.mpr ⟨rfl, h _⟩
  | .inr (.inl _) => exact mem_ownCells.mpr ⟨rfl, h _⟩
  | .inr (.inr _) => exact mem_ownCells.mpr ⟨rfl, h _⟩

/-- The sequencer's cells at zero: the kernel's, and the rest. -/
theorem ownSems0_seqr : (ownSems0 (seqr d i) : sProp 𝕄)
    = iprop(((bigSep Finset.univ fun t => semVal (seqr d i, SemLoc.dma (cellIn t)) 0) ∗ (bigSep Finset.univ fun t => semVal (seqr d i, SemLoc.dma (cellOut t)) 0)
          ∗ semVal (seqr d i, SemLoc.dma cellWords) 0) ∗ bigSep (ownCells (seqr d i) \ Finset.univ.image (cellOf d i)) fun g => semVal g 0) := by
  unfold SparseCore.Cfg.ownSems0
  rw [SparseCore.bigSep_sdiff_split' (t := Finset.univ.image (cellOf d i)) (Finset.image_subset_iff.mpr fun k _ => cellOf_mem d i k),
    SparseCore.bigSep_image_of_injOn (cellOf_inj d i).injOn]
  rw [bigSep_univ_sum, bigSep_univ_sum, bigSep_univ_of_subsingleton ()]
  rfl

/-! ## The core's part of the call -/

/-- What the call hands a core: a read share of the table and of the flat indices, and its rows of the result. -/
def handed (q : PosShare TreeShare) (tab : Buf (Elt F) (tabM.view.loc (seqr d i))) (idx : Buf (Elt F) (idxM.view.loc (seqr d i))) : sProp 𝕄 :=
  iprop((tabM.view.loc (seqr d i) ↦[Finset.univ]{q} tab) ∗ (idxM.view.loc (seqr d i) ↦[Finset.univ]{q} idx)
    ∗ ∃ g, resM.view.loc (seqr d i) ↦[coreRows (i 0).val]{fullShare} g)

/-- What it hands back: its rows done. -/
def returned (q : PosShare TreeShare) (tab : Buf (Elt F) (tabM.view.loc (seqr d i))) (idx : Buf (Elt F) (idxM.view.loc (seqr d i))) : sProp 𝕄 :=
  iprop((tabM.view.loc (seqr d i) ↦[Finset.univ]{q} tab) ∗ (idxM.view.loc (seqr d i) ↦[Finset.univ]{q} idx)
    ∗ resM.view.loc (seqr d i) ↦[coreRows (i 0).val]{fullShare} resVal d i tab (wordOf idx))

variable [FloatOps F]

/-- The sequencer's part: the body, from what the launch hands it. -/
theorem core_run (hF : (K (F := F)).Facts) (idx : Buf (Elt F) (idxM.view.loc (seqr d i))) (hI : ∀ n, (wordOf idx n).toNat < 512)
    (O : CellTallies nD τ sig (HIx 1)) (W : Waits sig (HIx 1)) (hO : ∀ g, O g none = 0) :
    iprop(levAts (K (F := F)).L (K (F := F)).lev ∗ emp ∗ handed d i q tab idx ∗ scopedBufs (seqr d i) ∗ scopedSems0 (seqr d i) ∗ owes (seqr d i) O W)
      ⊢ wp frame (wpE (defs₀ (F := F)) 𝒱₀ (seqr d i) none) Set.univ
          (cc0_k i tabM (Memref.isWhole_whole _) idxM (Memref.isWhole_whole _) resM (Memref.isWhole_whole _)
            wordM (Memref.isWhole_whole _) slotM (Memref.isWhole_whole _) cc0_scratch2 cc0_scratch3 cc0_scratch4 cc0_scratch5 cc0_scratch6 cc0_scratch7 cc0_scratch8
            cc0_scratch9 cc0_scratch10 cc0_scratch11 cc0_scratch12 cc0_scratch13 cc0_scratch14 cc0_scratch15 cc0_scratch16 cc0_scratch17 cc0_scoped0)
          fun _ => iprop(returned d i q tab idx ∗ scopedBufs (seqr d i) ∗ scopedSems0 (seqr d i)
            ∗ ∃ W', ⌜∀ p ∈ W', p ∈ W ∨ p.2 = none ∨ p.2 = some (0 : Fin 1)⌝ ∗ owes (seqr d i) O W') := by
  rw [(K (F := F)).scopedBufs_S hF d _, SparseCore.Cfg.scopedSems0_S (Val := Elt F) d _, ownSems0_seqr, ownBufs_seqr]
  unfold handed returned
  iintro ⟨#Hlv, -, ⟨Ht, Hx, %g, Hr⟩, ⟨⟨Hw, ⟨%f, Hs⟩, Hbufs⟩, Htiles⟩, ⟨⟨⟨Hi, Ho, Hc⟩, Hsems⟩, HtileSems⟩, HO⟩
  ihave #Hmw := ((K (F := F)).mayWaits_none (thr := seqr d i) hO) $$ Hlv
  ihave Hrest := (rest_in d i tab (wordOf idx) q f g) $$ [Hi Ho Hs Ht Hr]
  · isplitl [Hi Ho]; · isplitl [Hi] <;> iassumption
    isplitl [Hs]; · iexact Hs
    isplitl [Ht] <;> iassumption
  icases Hrest with ⟨Hd, Hrest⟩
  have hbody := run_body (F := F) (d := d) (i := i) (tab := tab) (q := q) (O := O) (R := tabM.view.loc (seqr d i) ↦[Finset.univ]{shareDrop q 8} tab) (idx := idx) (qi := q) hI
  unfold runs at hbody
  iapply (wp_wand_r Idealize.ShloMosaic.frame (wpE (defs₀ (F := F)) 𝒱₀ (seqr d i) none) Set.univ)
  isplitl [Hd Hx Hw Hc HO Hrest]
  · iapply hbody
    unfold Start
    isplitl [Hd]; · iexact Hd
    isplitr; · iexact Hmw
    isplitl [Hx]; · iexact Hx
    isplitl [Hw]; · iexact Hw
    isplitl [Hc]; · iexact Hc
    isplitl [HO]; · iexists W; iexact HO
    iexact Hrest
  unfold St base aside
  iintro %_ ⟨⟨⟨Hd, Hx, Hc⟩, -, Hw, ⟨%W', HO⟩⟩, Hrest⟩
  ihave Hend := (rest_out d i tab (wordOf idx) q) $$ [Hd Hrest]
  · isplitl [Hd] <;> iassumption
  icases Hend with ⟨⟨Hi, Ho⟩, Hs, Ht, Hr⟩
  isplitl [Ht Hx Hr]
  · isplitl [Ht]; · iexact Ht
    isplitl [Hx] <;> iassumption
  isplitl [Hw Hs Hbufs Htiles]
  · isplitl [Hw Hs Hbufs]
    · isplitl [Hw]; · iexists _; iexact Hw
      isplitl [Hs] <;> iassumption
    iexact Htiles
  isplitl [Hi Ho Hc Hsems HtileSems]
  · isplitl [Hi Ho Hc Hsems]
    · isplitl [Hi Ho Hc]
      · isplitl [Hi]; · iexact Hi
        isplitl [Ho] <;> iassumption
      iexact Hsems
    iexact HtileSems
  iexists W'; isplitr
  · ipureintro; intro p _
    rcases p.2 with _ | q
    · exact .inr (.inl rfl)
    · exact .inr (.inr (congrArg some (Subsingleton.elim q 0)))
  · iexact HO

end Cert.Proof.RowGather

end
-- ==== Proof.Launch.lean ====
/-
  The whole program's run: what the call hands the two cores and takes back, the host's two reshapes around it, and from
  the launch theorem the result, the arguments and the semaphores at the end.
-/
module

public import proofs.«01_k».proof.Proof.Core

@[expose] public section

noncomputable section

namespace Cert.Proof.RowGather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## The arrays and their contents -/

abbrev argLoc (d : Dev nD) : Loc nD τ sig := (SparseCore.T d).loc main_arg0
abbrev tabLoc (d : Dev nD) : Loc nD τ sig := (SparseCore.T d).loc main_arg1
abbrev idxLoc (d : Dev nD) : Loc nD τ sig := (SparseCore.T d).loc main_v0
abbrev resLoc (d : Dev nD) : Loc nD τ sig := (SparseCore.T d).loc main_v1
abbrev outLoc (d : Dev nD) : Loc nD τ sig := (SparseCore.T d).loc main_v2

abbrev arg' : DevRef τ sig := Proc.devRef .tc (main_arg0 : Ref sig .tc)
abbrev tab' : DevRef τ sig := Proc.devRef .tc (main_arg1 : Ref sig .tc)
abbrev idx' : DevRef τ sig := Proc.devRef .tc (main_v0 : Ref sig .tc)
abbrev res' : DevRef τ sig := Proc.devRef .tc (main_v1 : Ref sig .tc)
abbrev out' : DevRef τ sig := Proc.devRef .tc (main_v2 : Ref sig .tc)

/-- The host's two reshapes: of the indices to a row, of the gathered rows to the result's shape. -/
abbrev flatten : HloOp τ sig (Elt F) := StableHlo.reshape main_arg0 main_v0 (rfl : (.i32 : EltTy) = .i32) shapeCasts_S8x128_S1024
abbrev unflatten : HloOp τ sig (Elt F) := StableHlo.reshape main_v1 main_v2 (rfl : (.f32 : EltTy) = .f32) shapeCasts_S1024x49152_S8x128x49152

/-- The arrays at the launch, and after the first reshape. -/
def V0 (d : Dev nD) : Valuation τ sig (Elt F) := fun b => m (d, b)
def V1 (d : Dev nD) : Valuation τ sig (Elt F) := (flatten (F := F)).result (V0 m d)

/-- The flat indices; row `r` of the call's result is the table's row that index `r` names. -/
abbrev flatIdx (d : Dev nD) : Buf (Elt F) (idxLoc d) := V1 m d idx'
def flatAt (r : Fin 1024) : S1024.Idx := fun | 0 => r
def gathered (d : Dev nD) : Buf (Elt F) (resLoc d) := fun p : S1024x49152.Idx => m (tabLoc d) (tabAt (flatIdx m d (flatAt (p 0))) (p 1))

/-- The arrays after the call, and after the second reshape. -/
def V2 (d : Dev nD) : Valuation τ sig (Elt F) := Function.update (V1 m d) res' (gathered m d)
def V3 (d : Dev nD) : Valuation τ sig (Elt F) := (unflatten (F := F)).result (V2 m d)

theorem flatIdx_eq (d : Dev nD) : flatIdx m d = shapeCast S1024 (m (argLoc d)) shapeCasts_S8x128_S1024 :=
  StableHlo.reshape_result main_arg0 main_v0 _ _ _ _ _

theorem V1_ne (d : Dev nD) {r : Ref sig .tc} (h : r ≠ main_v0) : V1 m d (Proc.devRef .tc r) = V0 m d (Proc.devRef .tc r) :=
  StableHlo.reshape_result_ne _ _ _ _ _ _ _ h
theorem V2_ne (d : Dev nD) {b : DevRef τ sig} (h : b ≠ res') : V2 m d b = V1 m d b := Function.update_of_ne h _ _
theorem V2_res (d : Dev nD) : V2 m d res' = gathered m d := Function.update_self _ _ _
theorem V3_ne (d : Dev nD) {r : Ref sig .tc} (h : r ≠ main_v2) : V3 m d (Proc.devRef .tc r) = V2 m d (Proc.devRef .tc r) :=
  StableHlo.reshape_result_ne _ _ _ _ _ _ _ h

theorem V3_arg (d : Dev nD) : V3 m d arg' = m (argLoc d) :=
  (V3_ne m d (by decide)).trans ((V2_ne m d (by decide)).trans (V1_ne m d (by decide)))
theorem V3_tab (d : Dev nD) : V3 m d tab' = m (tabLoc d) :=
  (V3_ne m d (by decide)).trans ((V2_ne m d (by decide)).trans (V1_ne m d (by decide)))
theorem V3_out (d : Dev nD) : V3 m d out' = shapeCast S8x128x49152 (gathered m d) shapeCasts_S1024x49152_S8x128x49152 :=
  (StableHlo.reshape_result main_v1 main_v2 _ _ _ _ _).trans (by rw [V2_res]; rfl)

/-! ## What the call hands over -/

/-- Grid point `c`. -/
def pointOf (c : Fin (grid0.bound 0)) : grid0.Coords := fun | 0 => c | ⟨_ + 1, h⟩ => absurd h (Nat.not_lt.2 (Nat.le_add_left _ _))

/-- Each core gets its share of the table and the flat indices and its rows, and hands them back, the rows done. -/
def P : (K (F := F)).Pay (nD := nD) (Val := Elt F) (Name := ℕ) (U := UU) where
  st := fun q d c => match q, c with | 0, c => handed d (pointOf c) (shareTokN fullShare c.val) (m (tabLoc d)) (flatIdx m d)
  dn := fun q d c => match q, c with | 0, c => returned d (pointOf c) (shareTokN fullShare c.val) (m (tabLoc d)) (flatIdx m d)
  go := fun _ _ _ _ => iprop(emp)
  td := fun _ _ _ _ => iprop(emp)
  x := fun _ _ => iprop(emp)

instance P_storable : (P (F := F) m).IsStorable where
  st q d c := by match q, c with | 0, c => unfold P handed; infer_instance
  dn q d c := by match q, c with | 0, c => unfold P returned; infer_instance
  go _ _ _ _ := by unfold P; infer_instance
  td _ _ _ _ := by unfold P; infer_instance

theorem core_apart (c c' : Fin 2) (h : c ≠ c') : Disjoint (coreRows c.val) (coreRows c'.val) := by
  rw [Finset.disjoint_left]; intro p hp hp'
  rw [mem_coreRows] at hp hp'
  exact h (Fin.ext (hp.symm.trans hp'))

theorem core_cover : Finset.univ.biUnion (fun c : Fin 2 => coreRows c.val) = Finset.univ := by
  ext p
  simp only [Finset.mem_biUnion, Finset.mem_univ, true_and, mem_coreRows, iff_true]
  exact ⟨⟨(p 0).val / 512, by have : (p 0).val < 1024 := (p 0).isLt; omega⟩, rfl⟩

/-- A core's rows done are the gathered rows. -/
theorem rows_gathered (d : Dev nD) (c : Fin 2) : ∀ p ∈ coreRows c.val,
    resVal d (pointOf c) (m (tabLoc d)) (wordOf (d := d) (i := pointOf c) (flatIdx m d)) p = gathered m d p := by
  intro p hp
  rw [mem_coreRows] at hp
  refine congrArg (fun x => m (tabLoc d) (tabAt (flatIdx m d x) (p 1))) (funext fun a => Fin.ext ?_)
  match a with
  | 0 => show 512 * c.val + (p 0).val % 512 % 512 = (p 0).val; omega

/-- What is left of the table and of the flat indices beside the cores' shares. -/
abbrev kept (d : Dev nD) : sProp 𝕄 :=
  iprop((tabLoc d ↦{shareDrop fullShare 2} m (tabLoc d)) ∗ idxLoc d ↦{shareDrop fullShare 2} flatIdx m d)

/-- The arrays are what the cores get, and the rest; -/
theorem st_in (d : Dev nD) : iprop((tabLoc d ↦{fullShare} m (tabLoc d)) ∗ (idxLoc d ↦{fullShare} flatIdx m d) ∗ ∃ f, resLoc d ↦{fullShare} f)
    ⊢ (iprop(kept m d ∗ bigSep Finset.univ fun c : Fin ((K (F := F)).nCore 0) => (P m).st 0 d c) : sProp 𝕄) := by
  have e : (bigSep Finset.univ fun c : Fin ((K (F := F)).nCore 0) => (P m).st 0 d c)
      = (iprop((bigSep Finset.univ fun c : Fin 2 => tabLoc d ↦{shareTok fullShare 2 c} m (tabLoc d)) ∗ (bigSep Finset.univ fun c : Fin 2 => idxLoc d ↦{shareTok fullShare 2 c} flatIdx m d)
        ∗ bigSep Finset.univ fun c : Fin 2 => iprop(∃ g, resLoc d ↦[coreRows c.val]{fullShare} g)) : sProp 𝕄) :=
    (bigSep_sep' (Finset.univ : Finset (Fin 2)) _ _).trans (congrArg _ (bigSep_sep' _ _ _))
  rw [e]
  iintro ⟨Ht, Hx, %f, Hr⟩
  ihave Ht' := (pointsTo_toks_split fullShare 2) $$ Ht
  icases Ht' with ⟨Htd, Ht⟩
  ihave Hx' := (pointsTo_toks_split fullShare 2) $$ Hx
  icases Hx' with ⟨Hxd, Hx⟩
  ihave Hr' := (Entails.of_eq (Ring.pointsTo_blocks (fun c : Fin 2 => coreRows c.val) core_apart core_cover f)) $$ Hr
  isplitl [Htd Hxd]; · isplitl [Htd] <;> iassumption
  isplitl [Ht]; · iexact Ht
  isplitl [Hx]; · iexact Hx
  iapply (SparseCore.ent <| bigSep_mono (s := Finset.univ) (Φ := fun c : Fin 2 => (resLoc d ↦[coreRows c.val]{fullShare} f : sProp 𝕄))
    (Ψ := fun c => iprop(∃ g, resLoc d ↦[coreRows c.val]{fullShare} g)) fun c _ => exists_intro (Φ := fun g => (resLoc d ↦[coreRows c.val]{fullShare} g : sProp 𝕄)) f) $$ Hr'

/-- and what they hand back, with it, the arrays, the rows gathered. -/
theorem dn_out (d : Dev nD) : iprop(kept m d ∗ bigSep Finset.univ fun c : Fin ((K (F := F)).nCore 0) => (P m).dn 0 d c)
    ⊢ (iprop((tabLoc d ↦{fullShare} m (tabLoc d)) ∗ (idxLoc d ↦{fullShare} flatIdx m d) ∗ resLoc d ↦{fullShare} gathered m d) : sProp 𝕄) := by
  have e : (bigSep Finset.univ fun c : Fin ((K (F := F)).nCore 0) => (P m).dn 0 d c)
      = (iprop((bigSep Finset.univ fun c : Fin 2 => tabLoc d ↦{shareTok fullShare 2 c} m (tabLoc d)) ∗ (bigSep Finset.univ fun c : Fin 2 => idxLoc d ↦{shareTok fullShare 2 c} flatIdx m d)
        ∗ bigSep Finset.univ fun c : Fin 2 => resLoc d ↦[coreRows c.val]{fullShare} gathered m d) : sProp 𝕄) :=
    (bigSep_sep' (Finset.univ : Finset (Fin 2)) _ _).trans (congrArg _ ((bigSep_sep' _ _ _).trans (congrArg _
      (bigSep_congr fun c _ => pointsTo_congr (rows_gathered m d c)))))
  rw [e]
  iintro ⟨⟨Htd, Hxd⟩, Ht, Hx, Hr⟩
  isplitl [Htd Ht]
  · iapply (pointsTo_toks_join fullShare 2)
    isplitl [Htd] <;> iassumption
  isplitl [Hxd Hx]
  · iapply (pointsTo_toks_join fullShare 2)
    isplitl [Hxd] <;> iassumption
  iapply (Entails.of_eq (Ring.pointsTo_blocks (fun c : Fin 2 => coreRows c.val) core_apart core_cover (gathered m d)).symm) $$ Hr

variable [FloatOps F]

/-! ## The launch theorem's obligation -/

theorem defs₀_scalar (c : Fin τ.nSC) :
    defs₀ (F := F) (.scScalar c) 0 ()
      = SparseCore.onCore hcore0 (fun c => cc0_k (pointOf c) tabM (Memref.isWhole_whole _) idxM (Memref.isWhole_whole _) resM (Memref.isWhole_whole _)
          wordM (Memref.isWhole_whole _) slotM (Memref.isWhole_whole _) cc0_scratch2 cc0_scratch3 cc0_scratch4 cc0_scratch5 cc0_scratch6 cc0_scratch7 cc0_scratch8
          cc0_scratch9 cc0_scratch10 cc0_scratch11 cc0_scratch12 cc0_scratch13 cc0_scratch14 cc0_scratch15 cc0_scratch16 cc0_scratch17 cc0_scoped0) ⟨⟩ c := rfl

/-- Every index names a row of the table. -/
abbrev InRange : Prop := ∀ (d : Dev nD) (x : S8x128.Idx), (show BitVec 32 from m (argLoc d) x).toNat < 512

variable {m}

omit [FloatOps F] in
theorem word_inRange (h : InRange m) (d : Dev nD) (i : grid0.Coords) (n : ℕ) : (wordOf (d := d) (i := i) (flatIdx m d) n).toNat < 512 := by
  unfold wordOf; rw [flatIdx_eq]; exact h d _

theorem scalarObl (hm : InRange m) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  exact core_run d (pointOf c) (m (tabLoc d)) (shareTokN fullShare c.val) facts (flatIdx m d) (word_inRange hm d _) O W hO

variable (m)

/-! ## The launch element: the hand-over's rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none {I : Type} (s : Finset I) : (bigSep s fun _ => iprop(emp)) = (iprop(emp) : sProp 𝕄) := bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none]
  iempintro

/-! ## The host program -/

/-- The TensorCore's arrays. -/
abbrev S5 : Finset (DevRef τ sig) := {arg', tab', idx', res', out'}

omit [FloatOps F] in
theorem held_S5 (d : Dev nD) (W : Valuation τ sig (Elt F)) :
    (held (SparseCore.T d) S5 W : sProp 𝕄) = iprop((argLoc d ↦{fullShare} W arg') ∗ (tabLoc d ↦{fullShare} W tab') ∗ (idxLoc d ↦{fullShare} W idx')
      ∗ (resLoc d ↦{fullShare} W res') ∗ outLoc d ↦{fullShare} W out') := by
  unfold held S5
  rw [SparseCore.bigSep_insert' (by decide), SparseCore.bigSep_insert' (by decide), SparseCore.bigSep_insert' (by decide),
    SparseCore.bigSep_insert' (by decide), bigSep_singleton]

omit [FloatOps F] in
theorem unscoped_held (d : Dev nD) : (unscopedBufs d (fun b => m ((SparseCore.T d).loc b)) : sProp 𝕄) = held (SparseCore.T d) S5 (V0 m d) := by
  rw [held_S5]
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]
  rfl

/-- What the program leaves: the arguments as they were, the result. -/
abbrev FIN (d : Dev nD) : sProp 𝕄 :=
  iprop((argLoc d ↦{fullShare} m (argLoc d)) ∗ (tabLoc d ↦{fullShare} m (tabLoc d)) ∗ outLoc d ↦{fullShare} V3 m d out')

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := flatten) (S := S5) (show ({arg', idx'} : Finset (DevRef τ sig)) ⊆ S5 by decide) (V := V0 m d)) $$ [Hb Hheld]
  · isplitl [Hb] <;> iassumption
  rw [← V1]
  iintro ⟨Hb, Hheld⟩
  rw [wp_ret]; imodintro
  ihave Hh := (Entails.of_eq (held_S5 (F := F) d (V1 m d))) $$ Hheld
  icases Hh with ⟨Ha, Ht, Hx, Hr, Hz⟩
  ihave Hin := (st_in m d) $$ [Ht Hx Hr]
  · isplitl [Ht]; · iexact Ht
    isplitl [Hx]; · iexact Hx
    iexists _; iexact Hr
  icases Hin with ⟨Hkept, Hin⟩
  iapply ((K (F := F)).wp_run (D (F := F)) 𝒱 (EH := EH) (P := P m) κ d 0) $$ [Hst Hin Hkept Ha Hb Hz Hts]
  isplitr; · iexact Hctx
  isplitl [Hst]; · iexact Hst
  isplitl [Hin]; · iexact Hin
  iintro ⟨Hst, Hdn⟩
  ihave Hdn' := (dn_out m d) $$ [Hkept Hdn]
  · isplitl [Hkept] <;> iassumption
  icases Hdn' with ⟨Ht, Hx, Hr⟩
  iapply (wp_hlo_within 𝒱 (SparseCore.T d) none Set.univ (op := unflatten) (S := S5) (show ({res', out'} : Finset (DevRef τ sig)) ⊆ S5 by decide) (V := V2 m d)) $$ [Hb Ha Ht Hx Hr Hz]
  · isplitl [Hb]; · iexact Hb
    rw [held_S5, V2_res, V2_ne m d (b := arg') (by decide), V2_ne m d (b := tab') (by decide), V2_ne m d (b := idx') (by decide), V2_ne m d (b := out') (by decide)]
    isplitl [Ha]; · iexact Ha
    isplitl [Ht]; · iexact Ht
    isplitl [Hx]; · iexact Hx
    isplitl [Hr] <;> iassumption
  rw [← V3]
  iintro ⟨Hb, Hheld⟩
  ihave Hh := (Entails.of_eq (held_S5 (F := F) d (V3 m d))) $$ Hheld
  rw [V3_arg, V3_tab]
  icases Hh with ⟨Ha, Ht, -, -, Hz⟩
  rw [wp_ret]; imodintro; imodintro
  isplitl [Hst]; · iexact Hst
  isplitr [Hb Hts]
  · isplitl [Ha]; · iexact Ha
    isplitl [Ht] <;> iassumption
  isplitl [Hb] <;> iassumption

def fq (d : Dev nD) (s' : Phys nD τ sig (Elt F)) : Prop :=
  s'.mem.mem (outLoc d) = V3 m d out' ∧ s'.mem.mem (argLoc d) = m (argLoc d) ∧ s'.mem.mem (tabLoc d) = m (tabLoc d)

omit [FloatOps F] in
/-- Memory holds what a whole points-to says. -/
theorem read_whole (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro ⟨HSI, H⟩
  icombine HSI H gives %h
  isplitr
  · ipureintro; exact funext fun i => h i (Finset.mem_univ i)
  iexact HSI

theorem hfin (d : Dev nD) (s' : Phys nD τ sig (Elt F)) : iprop(FIN m d ∗ SI s') ⊢ (⌜fq m d s'⌝ : sProp 𝕄) := by
  iintro ⟨⟨Ha, Ht, Hz⟩, HSI⟩
  ihave H := (read_whole s' (argLoc d) _) $$ [HSI Ha]
  · isplitl [HSI] <;> iassumption
  icases H with ⟨%ha, HSI⟩
  ihave H := (read_whole s' (tabLoc d) _) $$ [HSI Ht]
  · isplitl [HSI] <;> iassumption
  icases H with ⟨%ht, HSI⟩
  ihave H := (read_whole s' (outLoc d) _) $$ [HSI Hz]
  · isplitl [HSI] <;> iassumption
  icases H with ⟨%hz, -⟩
  ipureintro; exact ⟨hz, ha, ht⟩

/-! ## The program's run -/

/-- What the program ends in: the result, the arguments, every semaphore at zero. -/
def QC : PUnit × MemSt nD τ sig (Elt F) → Prop := fun r =>
  (∀ c : Dev nD, r.2.mem (outLoc c) = V3 m c out' ∧ r.2.mem (argLoc c) = m (argLoc c) ∧ r.2.mem (tabLoc c) = m (tabLoc c)) ∧ r.2.sem = fun _ => 0

theorem run_main [∀ e, Nonempty (Elt F e)] (hm : InRange m) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl hm)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.RowGather

end
-- ==== Proof.Value.lean ====
module

public import proofs.«01_k».proof.Proof.Launch
public import proofs.«01_k».proof.Proof.Gen.Reference.Run
public import proofs.«01_k».proof.Proof.Gen.Pre_in_range
public import Idealize.ShloMosaic.Lib.WordCmp
public import Idealize.ShloMosaic.PureOps.Reduce
public import Idealize.ShloMosaic.Lib.Pipeline.Value

@[expose] public section

noncomputable section

namespace Cert.Proof.RowGather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Transfers

/-!
  The values: what the precondition says of each index, what the kernel's result is by the arguments alone, and that the
  reference's value is the same. Both are the table's row named by the index at the first two coordinates.
-/

/-! ## The precondition -/

/-- A fold by `and` of bits that starts at one is one exactly when every bit is. -/
theorem fold_and_eq_one {ι : Type} [DecidableEq ι] (s : Finset ι) (b : ι → BitVec 1) :
    s.fold IntOp.andi 1#1 b = 1#1 ↔ ∀ k ∈ s, b k = 1#1 := by
  induction s using Finset.induction with
  | empty => simp
  | insert k s hk ih => rw [Finset.fold_insert hk, IntOp.andi_eq_one, ih, Finset.forall_mem_insert]

/-- An `and` over some axes is one at a place exactly when each bit that drops to the place is. -/
theorem reduce_and_eq_one {s t u : Shape} {axes : List (Fin s.rank)} (x : IVec s 1) (h : s.ReducesTo axes t) (hu : 0 < u.numel)
    (j : t.Idx) : Host.reduce IntOp.andi x (constantI u 1 1#1) h hu j = 1#1 ↔ ∀ k, h.drop k = j → x k = 1#1 := by
  classical
  rw [Host.reduce_eq_fold]
  refine (fold_and_eq_one _ _).trans ⟨fun e k hk => e k ?_, fun e k hk => e k ?_⟩
  · simpa using hk
  · simpa using hk

section
variable {F : FTy → Type} [FloatOps F]

/-- Under the precondition every index is below the table's height. -/
theorem below_of_pre (idx : IVec S8x128 32) (tab : FVec F S512x49152 .f32) (h : Cert.Pre_in_range.fn (F := F) idx tab = fun _ => 1#1)
    (x : S8x128.Idx) : (idx x).toNat < 512 := by
  have e := (reduce_and_eq_one _ _ _ _).1 (congrFun h (fun a => a.elim0)) x (funext fun a => a.elim0)
  have e' : IntOp.andi (IntOp.cmpi .sge (idx x) 0#32) (IntOp.cmpi .slt (idx x) (BitVec.ofNat 32 512)) = 1#1 := e
  rw [WordCmp.andi_sge_zero_slt_ofNat (by decide), WordCmp.ofBool_decide_eq_one_iff] at e'
  exact e'

/-! ## The kernel's result by the arguments -/

/-- The place of an index array that names the row for two leading coordinates. -/
def pairAt (a : Fin 8) (b : Fin 128) : S8x128.Idx := fun
  | 0 => a
  | 1 => b

/-- The table's rows by the index array: at `(a, b, x)`, element `x` of the row that the index at `(a, b)` names. -/
def taken (idx : IVec S8x128 32) (tab : FVec F S512x49152 .f32) : FVec F S8x128x49152 .f32 :=
  fun p => tab (tabAt (idx (pairAt (p 0) (p 1))) (p 2))

theorem flat_eq_pair (idx : IVec S8x128 32) (a : Fin 8) (b : Fin 128) (r : Fin 1024) (hr : r.val = a.val * 128 + b.val) :
    shapeCast S1024 idx shapeCasts_S8x128_S1024 (flatAt r) = idx (pairAt a b) := by
  refine shapeCast_apply _ _ _ _ ?_
  rw [Shape.rowMajor_val_two, Shape.rowMajor_val_one]
  exact hr.symm

theorem V3_taken (m : (ℓ : Loc nD τ sig) → Buf (Elt F) ℓ) (d : Dev nD) : V3 m d out' = taken (m (argLoc d)) (m (tabLoc d)) := by
  rw [V3_out]
  funext p
  have h0 : (p 0).val < 8 := (p 0).isLt
  have h1 : (p 1).val < 128 := (p 1).isLt
  have h2 : (p 2).val < 49152 := (p 2).isLt
  let r : Fin 1024 := ⟨(p 0).val * 128 + (p 1).val, by omega⟩
  let k : S1024x49152.Idx := fun
    | 0 => r
    | 1 => p 2
  refine (shapeCast_apply (gathered m d) _ p k ?_).trans ?_
  · show (S1024x49152.rowMajor k).val = (S8x128x49152.rowMajor p).val
    rw [Shape.rowMajor_val_two, Shape.rowMajor_val_three]
    show ((p 0).val * 128 + (p 1).val) * 49152 + (p 2).val = _
    rfl
  · show m (tabLoc d) (tabAt (flatIdx m d (flatAt r)) (p 2)) = _
    rw [flatIdx_eq, flat_eq_pair _ (p 0) (p 1) r rfl]
    rfl

/-! ## The reference's value -/

/-- A word below the table's height is not negative, so the reference does not shift it. -/
theorem shift_eq (w : BitVec 32) (h : w.toNat < 512) :
    (if IntOp.cmpi .slt w 0#32 = 1#1 then IntOp.addi w 512#32 else w) = w := by
  refine if_neg fun e => ?_
  rw [WordCmp.cmpi_slt_zero, WordCmp.ofBool_decide_eq_one_iff] at e
  omega

/-- Such a word passes the reference's test. -/
theorem test_eq (w : BitVec 32) (h : w.toNat < 512) :
    IntOp.andi (IntOp.cmpi .sge w 0#32) (IntOp.cmpi .sle w 511#32) = 1#1 := by
  rw [IntOp.andi_eq_one, WordCmp.cmpi_sge_zero, WordCmp.ofBool_decide_eq_one_iff]
  refine ⟨by omega, ?_⟩
  have : w = BitVec.ofNat 32 w.toNat := by simp
  rw [this]
  exact (WordCmp.cmpi_sle_ofNat_eq_one_iff (by omega) (by decide)).2 (by omega)

/-- The index at two leading coordinates as an element of the gather's start indices. -/
def startAt (a : Fin 8) (b : Fin 128) : Cert.Reference.S8x128x1.Idx := fun
  | 0 => a
  | 1 => b
  | 2 => ⟨0, Nat.one_pos⟩

/-- The gather at `(a, b, x)`: element `x` of the row at the start index, brought into the table. -/
theorem gather_at {α : Type} (tab : S512x49152.Idx → α) (ix : IVec Cert.Reference.S8x128x1 32) (p : S8x128x49152.Idx)
    (h : (ix (startAt (p 0) (p 1))).toNat < 512) :
    Host.gather Cert.Reference.gather_S512x49152_S8x128x1_S8x128x49152_2_0_n_n_0_2_149152 tab ix p
      = tab (tabAt (ix (startAt (p 0) (p 1))) (p 2)) := by
  let D := Cert.Reference.gather_S512x49152_S8x128x1_S8x128x49152_2_0_n_n_0_2_149152
  unfold Host.gather
  refine congrArg tab (funext fun a => Fin.ext ?_)
  show D.start p ix a + D.batchCoord p a + D.offCoord p a = _
  rw [GatherDims.batchCoord_eq_zero _ _ _ List.not_mem_nil, Nat.add_zero]
  match a with
  | 0 =>
    have hz : D.offCoord p 0 = 0 :=
      GatherDims.offCoord_eq_zero _ _ _ fun e => ((GatherDims.mem_sKept _ _).mp e).1 (List.mem_singleton.mpr rfl)
    have hm : (0 : Fin 2) ∈ D.startIndexMap := List.mem_singleton.mpr rfl
    have hs : D.siIdx p ⟨D.startIndexMap.idxOf (0 : Fin 2), List.idxOf_lt_length_iff.2 hm⟩ = startAt (p 0) (p 1) :=
      funext fun b => Fin.ext (match b with | 0 => rfl | 1 => rfl | 2 => rfl)
    have hi : (ix (startAt (p 0) (p 1))).toInt.toNat = (ix (startAt (p 0) (p 1))).toNat := by
      rw [WordCmp.toInt_eq_toNat_of_lt_half (by omega)]; rfl
    show D.start p ix 0 + D.offCoord p 0 = _
    rw [hz, Nat.add_zero, GatherDims.start, dif_pos hm, hs, hi]
    show min _ 511 = _ % 512
    omega
  | 1 =>
    have hz : D.start p ix 1 = 0 := dif_neg (by decide)
    show D.start p ix 1 + D.offCoord p 1 = _
    rw [hz, Nat.zero_add]
    rfl

/-- The reference's start indices: the index array, a negative index shifted up by the table's height. -/
abbrev starts (idx : IVec S8x128 32) : IVec Cert.Reference.S8x128x1 32 :=
  broadcastInDim Cert.Reference.S8x128x1 ![0, 1] Cert.Reference.Gen.bcast_S8x128_S8x128x1_0_1
    (select (cmpi .slt idx (broadcastInDim S8x128 ![] Cert.Reference.Gen.bcast_S_S8x128 (constantI Cert.Reference.S_ 32 0#32)))
      (addi idx (broadcastInDim S8x128 ![] Cert.Reference.Gen.bcast_S_S8x128 (constantI Cert.Reference.S_ 32 512#32))) idx)

/-- Which of the reference's start indices name a row of the table. -/
abbrev inside (ix : IVec Cert.Reference.S8x128x1 32) : IVec S8x128 1 :=
  Host.reduce IntOp.andi
    (andi
      (cmpi .sge ix
        (broadcastInDim Cert.Reference.S8x128x1 ![] Cert.Reference.Gen.bcast_S_S8x128x1 (constantI Cert.Reference.S_ 32 0#32)))
      (cmpi .sle ix
        (broadcastInDim Cert.Reference.S8x128x1 ![0, 1, 2] Cert.Reference.Gen.bcast_S1x1x1_S8x128x1_0_1_2
          (broadcastInDim Cert.Reference.S1x1x1 ![2] Cert.Reference.Gen.bcast_S1_S1x1x1_2 (constantI Cert.Reference.S1 32 511#32)))))
    (constantI Cert.Reference.S_ 1 1#1) Cert.Reference.Gen.reducesTo_S8x128x1_S8x128_d2 Cert.Reference.Gen.h_S_

/-- The reference's value: the gathered rows where the index is inside the table, a fixed pattern elsewhere. -/
abbrev refValue (idx : IVec S8x128 32) (tab : FVec F S512x49152 .f32) : FVec F S8x128x49152 .f32 :=
  select (broadcastInDim S8x128x49152 ![0, 1] Cert.Reference.Gen.bcast_S8x128_S8x128x49152_0_1 (inside (starts idx)))
    (Host.gather Cert.Reference.gather_S512x49152_S8x128x1_S8x128x49152_2_0_n_n_0_2_149152 tab (starts idx))
    (broadcastInDim S8x128x49152 ![] Cert.Reference.Gen.bcast_S_S8x128x49152 (constant Cert.Reference.S_ .f32 0x7FC00000#32))

theorem starts_at (idx : IVec S8x128 32) (h : ∀ x, (idx x).toNat < 512) (k : Cert.Reference.S8x128x1.Idx) :
    starts idx k = idx (pairAt (k 0) (k 1)) := by
  refine (broadcastInDim_apply _ _ _ k (pairAt (k 0) (k 1)) fun a => ?_).trans ?_
  · match a with
    | 0 => rfl
    | 1 => rfl
  · exact shift_eq _ (h _)

theorem inside_at (idx : IVec S8x128 32) (h : ∀ x, (idx x).toNat < 512) (j : S8x128.Idx) : inside (starts idx) j = 1#1 := by
  refine (reduce_and_eq_one _ _ _ _).2 fun k _ => ?_
  show IntOp.andi (IntOp.cmpi .sge (starts idx k) 0#32) (IntOp.cmpi .sle (starts idx k) 511#32) = 1#1
  rw [starts_at idx h]
  exact test_eq _ (h _)

/-- THE REFERENCE'S VALUE: of indices inside the table it is the rows taken. -/
theorem refValue_eq (idx : IVec S8x128 32) (tab : FVec F S512x49152 .f32) (h : ∀ x, (idx x).toNat < 512) :
    refValue idx tab = taken idx tab := by
  funext p
  have e := starts_at idx h (startAt (p 0) (p 1))
  refine (if_pos (inside_at idx h _)).trans ?_
  rw [gather_at tab (starts idx) p (by rw [e]; exact h _), e]
  rfl

end

end Cert.Proof.RowGather
-- ==== Proof.lean ====
/-
  The proof of `Cert.Claim` (proofs.«01_k».proof.Defs).
  The kernel's run is proved once, over any number type: Proof/Setup.lean (the contents and the rights), Proof/Steps.lean (one
  fact per operation of the body), Proof/Body.lean (the body and its loops), Proof/Core.lean (a sequencer's run),
  Proof/Launch.lean (the launch, the host program, the run of the whole). Proof/Value.lean reads the result by the arguments
  and equates it with the reference's. Here each claim is read off those.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.Reference
public import proofs.«01_k».proof.Proof.Gen.Reference.Run
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem
open Cert.Proof.RowGather (run_main below_of_pre V3 out' V3_taken refValue_eq)

/-- The kernel's run and its idealization's are one theorem, read at the two number types. -/
theorem frame_kernel : Cert.quiescent_Kernel := fun m ρ h =>
  (θ_run Cert.KernelIdeal.defs _ _).mono (fun _ e => ⟨fun c => (e.1 c).2, e.2⟩)
    (run_main (F := Bits) m ρ fun d => below_of_pre _ _ (h d))

theorem frame_kernelIdeal : Cert.quiescent_KernelIdeal := fun m ρ h =>
  (θ_run Cert.KernelIdeal.defs _ _).mono (fun _ e => ⟨fun c => (e.1 c).2, e.2⟩)
    (run_main (F := Ideal) m ρ fun d => below_of_pre _ _ (h d))

/-- A reference declares no semaphore. -/
theorem frame_referenceIdeal : Cert.quiescent_ReferenceIdeal := fun m ρ _ =>
  (θ_run Cert.ReferenceIdeal.defs _ _).mono (fun r e => ⟨fun c => (e c).2, sem_eq_zero_of_no_sems (by decide) r.2⟩)
    (Cert.ReferenceIdeal.Value.run (F := Ideal) m ρ)

theorem frame_referenceIdeal_in_range : Cert.quiescent_ReferenceIdeal_pre_in_range := fun m ρ _ => frame_referenceIdeal m ρ trivial

theorem frame_reference : Cert.quiescent_Reference := fun m ρ _ =>
  (θ_run Cert.Reference.defs _ _).mono (fun r e => ⟨fun c => (e c).2, sem_eq_zero_of_no_sems (by decide) r.2⟩)
    (Cert.Reference.Value.run (F := Bits) m ρ)

/-- Both values are the table's rows taken by the index array. -/
theorem algebraic : Cert.algebraic_KernelIdeal_ReferenceIdeal := by
  intro m ρ m' ρ' hpre hagree
  refine ⟨fun c => V3 m c out', (θ_run Cert.KernelIdeal.defs _ _).mono (fun _ e => e.1)
    (run_main (F := Ideal) m ρ fun d => below_of_pre _ _ (hpre d)), ?_⟩
  refine (θ_run Cert.ReferenceIdeal.defs _ _).mono (fun _ e c => ⟨(e c).1.trans ?_, (e c).2⟩)
    (Cert.ReferenceIdeal.Value.run (F := Ideal) m' ρ')
  rw [(hagree c).1, (hagree c).2]
  exact (refValue_eq _ _ (below_of_pre _ _ (hpre c))).trans (V3_taken m c).symm

theorem bitexact : Cert.bitexact_Kernel_Reference := by
  intro m ρ m' ρ' hpre hagree
  refine ⟨fun c => V3 m c out', (θ_run Cert.KernelIdeal.defs _ _).mono (fun _ e => e.1)
    (run_main (F := Bits) m ρ fun d => below_of_pre _ _ (hpre d)), ?_⟩
  refine (θ_run Cert.Reference.defs _ _).mono (fun _ e c => ⟨(e c).1.trans ?_, (e c).2⟩)
    (Cert.Reference.Value.run (F := Bits) m' ρ')
  rw [(hagree c).1, (hagree c).2]
  exact (refValue_eq _ _ (below_of_pre _ _ (hpre c))).trans (V3_taken m c).symm

theorem claim : Cert.Claim :=
  ⟨Cert.Kernel.Gen.facts, Cert.KernelIdeal.Gen.facts, Cert.ReferenceIdeal.Gen.facts, Cert.Reference.Gen.facts,
    Cert.Pre_in_range.Gen.facts, frame_kernel, frame_kernelIdeal, frame_referenceIdeal, frame_referenceIdeal_in_range,
    frame_reference, trivial, algebraic, bitexact⟩

end Cert.Proof

end
